-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_no_tie [hKernelIdeal : Cert.KernelIdeal.Facts] [hReferenceIdeal : Cert.ReferenceIdeal.Facts] [hOn_no_tie : Cert.On_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![512, 131072]⟩ 1 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![512, 16]⟩ : Shape).Idx, (Cert.On_no_tie.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![512, 16]⟩ : Shape).Idx, (Cert.On_no_tie.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v3) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_no_tie : Cert.On_no_tie.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_no_tie (hKernelIdeal := hKernelIdeal) (hReferenceIdeal := hReferenceIdeal) (hOn_no_tie := hOn_no_tie)
-- ==== On_no_tie.lean ====
abbrev S512x131072 : Shape := ⟨2, ![512, 131072]⟩
abbrev S512x16 : Shape := ⟨2, ![512, 16]⟩
abbrev S512x15 : Shape := ⟨2, ![512, 15]⟩
abbrev S15 : Shape := ⟨1, ![15]⟩
abbrev S1x15 : Shape := ⟨2, ![1, 15]⟩
abbrev S16 : Shape := ⟨1, ![16]⟩
abbrev S16x1 : Shape := ⟨2, ![16, 1]⟩
abbrev S16x15 : Shape := ⟨2, ![16, 15]⟩
abbrev S512x1x15 : Shape := ⟨3, ![512, 1, 15]⟩
abbrev S1x16x15 : Shape := ⟨3, ![1, 16, 15]⟩
abbrev S512x16x15 : Shape := ⟨3, ![512, 16, 15]⟩
abbrev S_ : Shape := ⟨0, ![]⟩

class Facts : Prop where
  slices_S512x131072_S512x16_0_0 : S512x131072.Slices ![0, 0] S512x16
  slices_S512x16_S512x15_0_0 : S512x16.Slices ![0, 0] S512x15
  slices_S512x16_S512x15_0_1 : S512x16.Slices ![0, 1] S512x15
  bcast_S15_S1x15_1 : S15.BroadcastsInDim S1x15 (![1] : Fin 1 → Fin S1x15.rank)
  bcast_S16_S16x1_0 : S16.BroadcastsInDim S16x1 (![0] : Fin 1 → Fin S16x1.rank)
  bcast_S1x15_S16x15_0_1 : S1x15.BroadcastsInDim S16x15 (![0, 1] : Fin 2 → Fin S16x15.rank)
  bcast_S16x1_S16x15_0_1 : S16x1.BroadcastsInDim S16x15 (![0, 1] : Fin 2 → Fin S16x15.rank)
  bcast_S512x15_S512x1x15_0_2 : S512x15.BroadcastsInDim S512x1x15 (![0, 2] : Fin 2 → Fin S512x1x15.rank)
  bcast_S16x15_S1x16x15_1_2 : S16x15.BroadcastsInDim S1x16x15 (![1, 2] : Fin 2 → Fin S1x16x15.rank)
  bcast_S512x1x15_S512x16x15_0_1_2 : S512x1x15.BroadcastsInDim S512x16x15 (![0, 1, 2] : Fin 3 → Fin S512x16x15.rank)
  bcast_S1x16x15_S512x16x15_0_1_2 : S1x16x15.BroadcastsInDim S512x16x15 (![0, 1, 2] : Fin 3 → Fin S512x16x15.rank)
  reducesTo_S512x16x15_S512x16_d2 : S512x16x15.ReducesTo [2] S512x16
  h_S_ : 0 < S_.numel
  bcast_S_S512x16 : S_.BroadcastsInDim S512x16 (![] : Fin 0 → Fin S512x16.rank)

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S512x131072 .f32) : FVec F S512x131072 .f32 :=
  let v0 : FVec F S512x131072 .f32 := (fun x => Host.sort S512x131072 1 comparator_f32_d1 x) arg0
  v0

def fn {F : FTy → Type} [FloatOps F] (main_arg0 : FVec F S512x131072 .f32) : IVec S512x16 1 :=
  let main_v0 : FVec F S512x131072 .f32 := Host.negf main_arg0
  let main_v1 : FVec F S512x131072 .f32 := fn_sort (F := F) main_v0
  let main_v2 : FVec F S512x16 .f32 := (extractStridedSlice S512x16 ![0, 0] · slices_S512x131072_S512x16_0_0) main_v1
  let main_v3 : FVec F S512x15 .f32 := (extractStridedSlice S512x15 ![0, 0] · slices_S512x16_S512x15_0_0) main_v2
  let main_v4 : FVec F S512x15 .f32 := (extractStridedSlice S512x15 ![0, 1] · slices_S512x16_S512x15_0_1) main_v2
  let main_v5 : IVec S512x15 1 := cmpf .olt main_v3 main_v4
  let main_v6 : IVec S15 32 := iotaInDim S15 32 0
  let main_v7 : IVec S1x15 32 := broadcastInDim S1x15 ![1] bcast_S15_S1x15_1 main_v6
  let main_v8 : IVec S16 32 := iotaInDim S16 32 0
  let main_v9 : IVec S16x1 32 := broadcastInDim S16x1 ![0] bcast_S16_S16x1_0 main_v8
  let main_v10 : IVec S16x15 32 := broadcastInDim S16x15 ![0, 1] bcast_S1x15_S16x15_0_1 main_v7
  let main_v11 : IVec S16x15 32 := broadcastInDim S16x15 ![0, 1] bcast_S16x1_S16x15_0_1 main_v9
  let main_v12 : IVec S16x15 1 := cmpi .sge main_v10 main_v11
  let main_v13 : IVec S512x1x15 1 := broadcastInDim S512x1x15 ![0, 2] bcast_S512x15_S512x1x15_0_2 main_v5
  let main_v14 : IVec S1x16x15 1 := broadcastInDim S1x16x15 ![1, 2] bcast_S16x15_S1x16x15_1_2 main_v12
  let main_v15 : IVec S512x16x15 1 := broadcastInDim S512x16x15 ![0, 1, 2] bcast_S512x1x15_S512x16x15_0_1_2 main_v13
  let main_v16 : IVec S512x16x15 1 := broadcastInDim S512x16x15 ![0, 1, 2] bcast_S1x16x15_S512x16x15_0_1_2 main_v14
  let main_v17 : IVec S512x16x15 1 := ori main_v15 main_v16
  let main_c : IVec S_ 1 := constantI S_ 1 1#1
  let main_v18 : IVec S512x16 1 := (fun x v => Host.reduce IntOp.andi x v reducesTo_S512x16x15_S512x16_d2 h_S_) main_v17 main_c
  let main_cst : FVec F S_ .f32 := constant S_ .f32 0x7F800000#32
  let main_v19 : FVec F S512x16 .f32 := broadcastInDim S512x16 ![] bcast_S_S512x16 main_cst
  let main_v20 : IVec S512x16 1 := cmpf .oeq main_v2 main_v19
  let main_v21 : IVec S512x16 1 := ori main_v18 main_v20
  main_v21
-- ==== Kernel.lean ====
abbrev S512x4096 : Shape := ⟨2, ![512, 4096]⟩
abbrev S512x16 : Shape := ⟨2, ![512, 16]⟩
abbrev S16x512 : Shape := ⟨2, ![16, 512]⟩
abbrev S32x512 : Shape := ⟨2, ![32, 512]⟩
abbrev S5x16x512 : Shape := ⟨3, ![5, 16, 512]⟩
abbrev S5 : Shape := ⟨1, ![5]⟩
abbrev S_ : Shape := ⟨0, ![]⟩
abbrev S512 : Shape := ⟨1, ![512]⟩
abbrev S512x1 : Shape := ⟨2, ![512, 1]⟩
abbrev S1 : Shape := ⟨1, ![1]⟩
abbrev S1x16x512 : Shape := ⟨3, ![1, 16, 512]⟩
abbrev S1x512 : Shape := ⟨2, ![1, 512]⟩

abbrev nBuf : Space → Nat
  | .hbm => 2
  | .vmem => 7
  | .smem => 0
  | _ => 0

abbrev bufTy : (tb : Table) → Fin (tcTables nBuf tb) → BufTy
  | .hbm, ⟨0, _⟩ => ⟨S512x4096, .f32⟩
  | .hbm, ⟨1, _⟩ => ⟨S512x16, .f32⟩
  | .local _ .vmem, ⟨0, _⟩ => ⟨S512x4096, .f32⟩
  | .local _ .vmem, ⟨1, _⟩ => ⟨S512x16, .f32⟩
  | .local _ .vmem, ⟨2, _⟩ => ⟨S512x4096, .bf16⟩
  | .local _ .vmem, ⟨3, _⟩ => ⟨S512x16, .f32⟩
  | .local _ .vmem, ⟨4, _⟩ => ⟨S16x512, .f32⟩
  | .local _ .vmem, ⟨5, _⟩ => ⟨S32x512, .f32⟩
  | .local _ .vmem, ⟨6, _⟩ => ⟨S5x16x512, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v16 : BitVec 32 := Scalar.xori v2 c16_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_131 : BitVec 32 := 1#32
  let v232 : BitVec 32 := Scalar.xori v2 c1_i32_131
  let c1_i32_135 : BitVec 32 := 1#32
  let v233 : BitVec 32 := Scalar.muli v232 c1_i32_135
  let v234 : BitVec 32 := Scalar.addi c0_i32_136 v233
  v234.toNat
def k0_dev7 (d0 : Dev nD) : Nat :=
  let c0_i32_290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_285 : BitVec 32 := 2#32
  let v431 : BitVec 32 := Scalar.xori v2 c2_i32_285
  let c1_i32_289 : BitVec 32 := 1#32
  let v432 : BitVec 32 := Scalar.muli v431 c1_i32_289
  let v433 : BitVec 32 := Scalar.addi c0_i32_290 v432
  v433.toNat
def k0_dev8 (d0 : Dev nD) : Nat :=
  let c0_i32_445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_440 : BitVec 32 := 4#32
  let v630 : BitVec 32 := Scalar.xori v2 c4_i32_440
  let c1_i32_444 : BitVec 32 := 1#32
  let v631 : BitVec 32 := Scalar.muli v630 c1_i32_444
  let v632 : BitVec 32 := Scalar.addi c0_i32_445 v631
  v632.toNat
def k0_dev9 (d0 : Dev nD) : Nat :=
  let c0_i32_599 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_595 : BitVec 32 := 8#32
  let v829 : BitVec 32 := Scalar.xori v2 c8_i32_595
  let c1_i32_598 : BitVec 32 := 1#32
  let v830 : BitVec 32 := Scalar.muli v829 c1_i32_598
  let v831 : BitVec 32 := Scalar.addi c0_i32_599 v830
  v831.toNat
def k0_dev10 (d0 : Dev nD) : Nat :=
  let c0_i32_754 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_749 : BitVec 32 := 16#32
  let v1028 : BitVec 32 := Scalar.xori v2 c16_i32_749
  let c1_i32_753 : BitVec 32 := 1#32
  let v1029 : BitVec 32 := Scalar.muli v1028 c1_i32_753
  let v1030 : BitVec 32 := Scalar.addi c0_i32_754 v1029
  v1030.toNat
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x131072 : Shape := ⟨2, ![512, 131072]⟩
abbrev S512x16 : Shape := ⟨2, ![512, 16]⟩
abbrev S_ : Shape := ⟨0, ![]⟩
abbrev S512x16x1 : Shape := ⟨3, ![512, 16, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S512x131072, .f32⟩
  | .hbm, ⟨1, _⟩ => ⟨S512x131072, .f32⟩
  | .hbm, ⟨2, _⟩ => ⟨S512x131072, .i32⟩
  | .hbm, ⟨3, _⟩ => ⟨S512x131072, .f32⟩
  | .hbm, ⟨4, _⟩ => ⟨S512x131072, .i32⟩
  | .hbm, ⟨5, _⟩ => ⟨S512x16, .i32⟩
  | .hbm, ⟨6, _⟩ => ⟨S_, .i32⟩
  | .hbm, ⟨7, _⟩ => ⟨S512x16, .i32⟩
  | .hbm, ⟨8, _⟩ => ⟨S512x16, .i1⟩
  | .hbm, ⟨9, _⟩ => ⟨S_, .i32⟩
  | .hbm, ⟨10, _⟩ => ⟨S512x16, .i32⟩
  | .hbm, ⟨11, _⟩ => ⟨S512x16, .i32⟩
  | .hbm, ⟨12, _⟩ => ⟨S512x16, .i32⟩
  | .hbm, ⟨13, _⟩ => ⟨S512x16x1, .i32⟩
  | .hbm, ⟨14, _⟩ => ⟨S1, .i32⟩
  | .hbm, ⟨15, _⟩ => ⟨S_, .i32⟩
  | .hbm, ⟨16, _⟩ => ⟨S512x16x1, .i32⟩
  | .hbm, ⟨17, _⟩ => ⟨S512x16x1, .i1⟩
  | .hbm, ⟨18, _⟩ => ⟨S1x1x1, .i32⟩
  | .hbm, ⟨19, _⟩ => ⟨S512x16x1, .i32⟩
  | .hbm, ⟨20, _⟩ => ⟨S512x16x1, .i1⟩
  | .hbm, ⟨21, _⟩ => ⟨S512x16x1, .i1⟩
  | .hbm, ⟨22, _⟩ => ⟨S_, .i1⟩
  | .hbm, ⟨23, _⟩ => ⟨S512x16, .i1⟩
  | .hbm, ⟨24, _⟩ => ⟨S512x16, .f32⟩
  | .hbm, ⟨25, _⟩ => ⟨S_, .f32⟩
  | .hbm, ⟨26, _⟩ => ⟨S512x16, .f32⟩
  | .hbm, ⟨27, _⟩ => ⟨S512x16, .f32⟩
  | _, _ => ⟨S512x131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Shape.lean ====
/-
# 01_k — the kernel's body as a structured program

The body is one barrier over the five partners, a local extraction of the row's sixteen largest distinct values,
five rounds of exchange and merge, and a transposition into the result. Here each piece is written once, at a
symbolic step and round, and the printed body is shown to be their composition.
-/
module

public import proofs.«01_k».proof.Proof.Gen.KernelIdeal
public import proofs.«01_k».proof.Proof.Gen.KernelIdeal.Skeleton

@[expose] public section

noncomputable section

namespace Cert.TopK

open Cert.KernelIdeal Cert.KernelIdeal.Gen
open Idealize.ShloMosaic Idealize.SL.Sem

variable {F : FTy → Type} [FloatOps F]

/-! ## The buffers the body works on -/

abbrev xM : Memref sig .tc .vmem S512x4096 .f32 := Memref.whole cc0_stg0_0
abbrev oM : Memref sig .tc .vmem S512x16 .f32 := Memref.whole cc0_stg1_0
abbrev bM : Memref sig .tc .vmem S512x4096 .bf16 := Memref.whole cc0_scratch0
abbrev sM : Memref sig .tc .vmem S512x16 .f32 := Memref.whole cc0_scratch1
abbrev lM : Memref sig .tc .vmem S16x512 .f32 := Memref.whole cc0_scratch2
abbrev cM : Memref sig .tc .vmem S32x512 .f32 := Memref.whole cc0_scratch3
abbrev mM : Memref sig .tc .vmem S5x16x512 .f32 := Memref.whole cc0_scratch4

/-- The programs of the body. -/
abbrev Bdy (F : FTy → Type) (α : Type) := Prog (TpuEff nD τ sig (Elt F) Λ₀ .tc) α

theorem inb_row (j : Fin 16) : ∀ a, (![j.val, 0] : Fin 2 → Nat) a + S1x512.size a ≤ S16x512.size a := by revert j; decide
theorem inb_col (j : Fin 16) : ∀ a, (![0, j.val] : Fin 2 → Nat) a + S512x1.size a ≤ S512x16.size a := by revert j; decide
theorem inb_sem (r : Fin 5) : ∀ a, (![r.val] : Fin 1 → Nat) a + S1.size a ≤ S5.size a := by revert r; decide
theorem inb_page (r : Fin 5) : ∀ a, (![r.val, 0, 0] : Fin 3 → Nat) a + S1x16x512.size a ≤ S5x16x512.size a := by revert r; decide

/-! ## The values -/

/-- The largest entry of each column of the candidates. -/
def topC (v : FVec F S32x512 .f32) : FVec F S1x512 .f32 :=
  shapeCast S1x512 (multiReduction .maximumf [0] S512 v 0xFF800000#32 reduces_S32x512_S512 (.inl rfl) rfl) shapeCasts_S512_S1x512

/-- The candidates below `mx`, the others replaced by minus infinity. -/
def belowC (mx : FVec F S1x512 .f32) (v w : FVec F S32x512 .f32) : FVec F S32x512 .f32 :=
  select (cmpf .olt v (broadcastTo S32x512 mx broadcasts_S1x512_S32x512)) w (broadcast S32x512 (Scalar.ofBits .f32 0xFF800000#32))

/-- The largest entry of each row of the device's block. -/
def topB (v : FVec F S512x4096 .bf16) : FVec F S512x1 .bf16 :=
  shapeCast S512x1 (multiReduction .maximumf [1] S512 v 0xFF80#16 reduces_S512x4096_S512 (.inr rfl) rfl) shapeCasts_S512_S512x1

/-- The block's entries below `mx`, the others replaced by minus infinity. -/
def belowB (mx : FVec F S512x1 .bf16) (v w : FVec F S512x4096 .bf16) : FVec F S512x4096 .bf16 :=
  select (cmpf .olt v (broadcastTo S512x4096 mx broadcasts_S512x1_S512x4096)) w
    (broadcast S512x4096 (Scalar.truncf .bf16 bitsLt_bf16_f32 (Scalar.ofBits .f32 0xFF800000#32)))

/-! ## The pieces -/

/-- A load of the whole candidate buffer. -/
def loadC : Bdy F (Vec F S32x512 .f32) :=
  Prog.lift (.load cM (Rect.unit (s := S32x512) ![0, 0] S32x512.size inb_S32x512_S32x512_0_0).toLoadRect (View.loadsAt_vmem h_S32x512))

/-- Row `j` of the list written, after the load of it the store carries. -/
def putL (j : Fin 16) (w : FVec F S1x512 .f32) : Bdy F PUnit := do
  let _ : Vec F S1x512 .f32 ← Prog.lift (.load lM (Rect.unit (s := S16x512) ![j.val, 0] S1x512.size (inb_row j)).toLoadRect (View.loadsAt_vmem h_S1x512))
  Prog.lift (.store lM (Rect.unit (s := S16x512) ![j.val, 0] S1x512.size (inb_row j)) (shapeCast S1x512 w shapeCasts_S1x512_S1x512) Finset.univ (View.stores_vmem_bits_univ h_S1x512 rfl) (.inl rfl))

/-- One step of the merge: the next largest candidate written at row `j`, and handed on. -/
def stepC (j : Fin 16) (mx : FVec F S1x512 .f32) : Bdy F (FVec F S1x512 .f32) := do
  let v ← loadC
  let w ← loadC
  putL j (topC (belowC mx v w))
  pure (topC (belowC mx v w))

/-- The steps of the merge at the rows `js`, in order. -/
def stepsC : List (Fin 16) → FVec F S1x512 .f32 → Bdy F PUnit
  | [], _ => pure ⟨⟩
  | j :: js, mx => do let mx' ← stepC j mx; stepsC js mx'

def loadB : Bdy F (Vec F S512x4096 .bf16) :=
  Prog.lift (.load bM (Rect.unit (s := S512x4096) ![0, 0] S512x4096.size inb_S512x4096_S512x4096_0_0).toLoadRect (View.loadsAt_vmem h_S512x4096))

/-- Column `j` of the local list written. -/
def putS (j : Fin 16) (w : FVec F S512x1 .bf16) : Bdy F PUnit := do
  let _ : Vec F S512x1 .f32 ← Prog.lift (.load sM (Rect.unit (s := S512x16) ![0, j.val] S512x1.size (inb_col j)).toLoadRect (View.loadsAt_vmem h_S512x1))
  Prog.lift (.store sM (Rect.unit (s := S512x16) ![0, j.val] S512x1.size (inb_col j)) (shapeCast S512x1 (extf .f32 w bitsLt_bf16_f32) shapeCasts_S512x1_S512x1) Finset.univ (View.stores_vmem_bits_univ h_S512x1 rfl) (.inl rfl))

/-- One step of the local extraction. -/
def stepB (j : Fin 16) (mx : FVec F S512x1 .bf16) : Bdy F (FVec F S512x1 .bf16) := do
  let v ← loadB
  let w ← loadB
  putS j (topB (belowB mx v w))
  pure (topB (belowB mx v w))

def stepsB : List (Fin 16) → FVec F S512x1 .bf16 → Bdy F PUnit
  | [], _ => pure ⟨⟩
  | j :: js, mx => do let mx' ← stepB j mx; stepsB js mx'

/-- The rows after the first, in order. -/
def rest16 : List (Fin 16) := [1, 2, 3, 4, 5, 6, 7, 8, 9, 10, 11, 12, 13, 14, 15]

/-- The device's barrier semaphore. -/
abbrev barS : Sem sig := (SemArray.scalar (sig.barrier 0 rfl) : Sems sig S_).sem

/-- The kernel's own words for the device a round's signal names, -/
def sigDev (r : Fin 5) (c : Dev nD) : Dev nD := match r with
  | 0 => ⟨k0_dev1 c, k0_dev1_lt c⟩ | 1 => ⟨k0_dev2 c, k0_dev2_lt c⟩ | 2 => ⟨k0_dev3 c, k0_dev3_lt c⟩
  | 3 => ⟨k0_dev4 c, k0_dev4_lt c⟩ | 4 => ⟨k0_dev5 c, k0_dev5_lt c⟩
/-- and the device a round's copy names. -/
def cpyDev (r : Fin 5) (c : Dev nD) : Dev nD := match r with
  | 0 => ⟨k0_dev6 c, k0_dev6_lt c⟩ | 1 => ⟨k0_dev7 c, k0_dev7_lt c⟩ | 2 => ⟨k0_dev8 c, k0_dev8_lt c⟩
  | 3 => ⟨k0_dev9 c, k0_dev9_lt c⟩ | 4 => ⟨k0_dev10 c, k0_dev10_lt c⟩

/-- The five signals and the wait. -/
def barrier (c : Dev nD) : Bdy F PUnit := do
  semSignalWord (sigDev 0 c) barS 1#32
  semSignalWord (sigDev 1 c) barS 1#32
  semSignalWord (sigDev 2 c) barS 1#32
  semSignalWord (sigDev 3 c) barS 1#32
  semSignalWord (sigDev 4 c) barS 1#32
  semWaitWord barS 5#32

/-- Page `r` of the landing buffer, as the transfers name it. -/
abbrev page (r : Fin 5) : Memref sig .tc .vmem S16x512 .f32 :=
  (mM.slice (Rect.unit (s := S5x16x512) ![r.val, 0, 0] S1x16x512.size (inb_page r)) (fun _ => rfl)).squeeze S16x512 squeezes_S1x16x512_S16x512
abbrev sendS (r : Fin 5) : DmaSems sig S_ := (cc0_scratch5.slice (Rect.unit (s := S5) ![r.val] S1.size (inb_sem r))).squeeze S_ squeezes_S1_S_
abbrev recvS (r : Fin 5) : DmaSems sig S_ := (cc0_scratch6.slice (Rect.unit (s := S5) ![r.val] S1.size (inb_sem r))).squeeze S_ squeezes_S1_S_

/-- The copy of the list into page `r` of device `n`, and its two waits. -/
def exchange (r : Fin 5) (n : Dev nD) : Bdy F PUnit := do
  Prog.lift (.enqueueDma lM (.remote (Dev.tc n) (page r) (.dma (sendS r).sem)) (.dma (recvS r).sem) (Memref.isWhole_whole _).wordExact ((View.wordExact_bits rfl).reshape _ _) ⟨⟨rfl, Or.inl rfl⟩, trivial⟩)
  Prog.lift (.waitDma2 (sendS r).sem (page r) lM ((View.wordExact_bits rfl).reshape _ _) (Memref.isWhole_whole _).wordExact)
  Prog.lift (.waitDma2 (recvS r).sem lM (page r) (Memref.isWhole_whole _).wordExact ((View.wordExact_bits rfl).reshape _ _))

/-- The list and the landed page put one above the other in the candidate buffer. -/
def gather (r : Fin 5) : Bdy F PUnit := do
  let v : Vec F S16x512 .f32 ← Prog.lift (.load lM (Rect.unit (s := S16x512) ![0, 0] S16x512.size inb_S16x512_S16x512_0_0).toLoadRect (View.loadsAt_vmem h_S16x512))
  let _ : Vec F S16x512 .f32 ← Prog.lift (.load cM (Rect.unit (s := S32x512) ![0, 0] S16x512.size inb_S32x512_S16x512_0_0).toLoadRect (View.loadsAt_vmem h_S16x512))
  Prog.lift (.store cM (Rect.unit (s := S32x512) ![0, 0] S16x512.size inb_S32x512_S16x512_0_0) (shapeCast S16x512 v shapeCasts_S16x512_S16x512) Finset.univ (View.stores_vmem_bits_univ h_S16x512 rfl) (.inl rfl))
  let w : Vec F S1x16x512 .f32 ← Prog.lift (.load mM (Rect.unit (s := S5x16x512) ![r.val, 0, 0] S1x16x512.size (inb_page r)).toLoadRect (View.loadsAt_vmem h_S1x16x512))
  let _ : Vec F S16x512 .f32 ← Prog.lift (.load cM (Rect.unit (s := S32x512) ![16, 0] S16x512.size inb_S32x512_S16x512_16_0).toLoadRect (View.loadsAt_vmem h_S16x512))
  Prog.lift (.store cM (Rect.unit (s := S32x512) ![16, 0] S16x512.size inb_S32x512_S16x512_16_0) (shapeCast S16x512 (shapeCast S16x512 w shapeCasts_S1x16x512_S16x512) shapeCasts_S16x512_S16x512) Finset.univ (View.stores_vmem_bits_univ h_S16x512 rfl) (.inl rfl))

/-- The sixteen largest distinct candidates of each column, into the list. -/
def merge : Bdy F PUnit := do
  let v ← loadC
  putL 0 (topC v)
  stepsC rest16 (topC v)

/-- One round. -/
def round (r : Fin 5) (c : Dev nD) : Bdy F PUnit := do
  exchange r (cpyDev r c)
  gather r
  merge

/-- The local phase: the block in bf16, its sixteen largest distinct entries per row, transposed into the list. -/
def localPhase : Bdy F PUnit := do
  let x : Vec F S512x4096 .f32 ← Prog.lift (.load xM (Rect.unit (s := S512x4096) ![0, 0] S512x4096.size inb_S512x4096_S512x4096_0_0).toLoadRect (View.loadsAt_vmem h_S512x4096))
  let _ ← loadB
  Prog.lift (.store bM (Rect.unit (s := S512x4096) ![0, 0] S512x4096.size inb_S512x4096_S512x4096_0_0) (shapeCast S512x4096 (truncf .bf16 (shapeCast S512x4096 x shapeCasts_S512x4096_S512x4096) bitsLt_bf16_f32) shapeCasts_S512x4096_S512x4096) Finset.univ (View.stores_vmem h_S512x4096 ((Memref.isWhole_whole _).storeExact_slice rfl _ packedbf16_S512x4096_S512x4096_0_0) (fun _ => rfl)) (.inl rfl))
  let v ← loadB
  putS 0 (topB v)
  stepsB rest16 (topB v)
  let s : Vec F S512x16 .f32 ← Prog.lift (.load sM (Rect.unit (s := S512x16) ![0, 0] S512x16.size inb_S512x16_S512x16_0_0).toLoadRect (View.loadsAt_vmem h_S512x16))
  let _ : Vec F S16x512 .f32 ← Prog.lift (.load lM (Rect.unit (s := S16x512) ![0, 0] S16x512.size inb_S16x512_S16x512_0_0).toLoadRect (View.loadsAt_vmem h_S16x512))
  Prog.lift (.store lM (Rect.unit (s := S16x512) ![0, 0] S16x512.size inb_S16x512_S16x512_0_0) (shapeCast S16x512 (transpose S16x512 [1, 0] s transposes_S512x16_p1_0_S16x512) shapeCasts_S16x512_S16x512) Finset.univ (View.stores_vmem_bits_univ h_S16x512 rfl) (.inl rfl))

/-- The list transposed into the result. -/
def finish : Bdy F PUnit := do
  let v : Vec F S16x512 .f32 ← Prog.lift (.load lM (Rect.unit (s := S16x512) ![0, 0] S16x512.size inb_S16x512_S16x512_0_0).toLoadRect (View.loadsAt_vmem h_S16x512))
  let _ : Vec F S512x16 .f32 ← Prog.lift (.load oM (Rect.unit (s := S512x16) ![0, 0] S512x16.size inb_S512x16_S512x16_0_0).toLoadRect (View.loadsAt_vmem h_S512x16))
  Prog.lift (.store oM (Rect.unit (s := S512x16) ![0, 0] S512x16.size inb_S512x16_S512x16_0_0) (transpose S512x16 [1, 0] v transposes_S16x512_p1_0_S512x16) Finset.univ (View.stores_vmem_bits_univ h_S512x16 rfl) (.inl rfl))

/-- The whole body. -/
def wholeBody : Bdy F PUnit := do
  let c : Dev nD ← Prog.lift .deviceId
  barrier c
  localPhase
  round 0 c
  round 1 c
  round 2 c
  round 3 c
  round 4 c
  finish

set_option maxRecDepth 65536 in
set_option maxHeartbeats 4000000 in
/-- The printed body is the structured one. -/
theorem body_eq : cc0_body (F := F) xM (Memref.isWhole_whole _) oM (Memref.isWhole_whole _) bM (Memref.isWhole_whole _) sM (Memref.isWhole_whole _)
    lM (Memref.isWhole_whole _) cM (Memref.isWhole_whole _) mM (Memref.isWhole_whole _) cc0_scratch5 cc0_scratch6 = wholeBody := rfl

end Cert.TopK

end
-- ==== Proof.Contents.lean ====
/-
# 01_k — what the buffers hold

The contents the run passes through, as functions of the devices' blocks and generic in the float values: the chain
of successive maxima of a block and of a candidate buffer, the list after each round, the result.
-/
module

public import proofs.«01_k».proof.Proof.Shape
public import Idealize.ShloMosaic.Lib.ValueIdxCore
public import Idealize.ShloMosaic.Lib.Pipeline.Value
public import Idealize.ShloMosaic.Lib.Pipeline.ValueKit.Geometry

@[expose] public section

set_option maxRecDepth 16384

noncomputable section

namespace Cert.TopK

open Cert.KernelIdeal Cert.KernelIdeal.Gen
open Idealize.ShloMosaic Idealize.ShloMosaic.ValueKit Idealize.ShloMosaic.ValueIdx

variable {F : FTy → Type} [FloatOps F]

/-! ## The partner of a round -/

/-- Round `r`'s partner: the device whose number differs in bit `r`. -/
def flip (r : ℕ) (c : Dev nD) : Dev nD := ⟨(c.val ^^^ 2 ^ r) % 32, Nat.mod_lt _ (by decide)⟩

theorem flip_flip (r : Fin 5) (c : Dev nD) : flip r.val (flip r.val c) = c := by revert r c; decide

set_option maxHeartbeats 4000000 in
theorem sigDev_eq (r : Fin 5) (c : Dev nD) : sigDev r c = flip r.val c := by revert r c; decide
set_option maxHeartbeats 4000000 in
theorem cpyDev_eq (r : Fin 5) (c : Dev nD) : cpyDev r c = flip r.val c := by revert r c; decide

/-- The exchange as a permutation of the devices. -/
def swap (r : Fin 5) : Dev nD ≃ Dev nD := ⟨flip r.val, flip r.val, flip_flip r, flip_flip r⟩

/-! ## The chains of maxima -/

/-- The successive maxima of each row of a block: each the largest entry below the one before. -/
def mxB (v : FVec F S512x4096 .bf16) : ℕ → FVec F S512x1 .bf16
  | 0 => topB v
  | k + 1 => topB (belowB (mxB v k) v v)

/-- The successive maxima of each column of the candidates. -/
def mxC (v : FVec F S32x512 .f32) : ℕ → FVec F S1x512 .f32
  | 0 => topC v
  | k + 1 => topC (belowC (mxC v k) v v)

/-- Rows put one below the other. -/
def rows (g : ℕ → FVec F S1x512 .f32) : FVec F S16x512 .f32 := fun i => g (i 0).val (ix2 0 (i 1))

/-- Columns in bf16 widened and put one beside the other. -/
def cols (g : ℕ → FVec F S512x1 .bf16) : FVec F S512x16 .f32 := fun i => extf .f32 (g (i 1).val) bitsLt_bf16_f32 (ix2 (i 0) 0)

/-- Two lists one above the other. -/
def stack (a b : FVec F S16x512 .f32) : FVec F S32x512 .f32 := fun i =>
  if h : (i 0).val < 16 then a (ix2 ⟨(i 0).val, h⟩ (i 1)) else b (ix2 ⟨(i 0).val - 16, by have : (i 0).val < 32 := (i 0).isLt; omega⟩ (i 1))

/-- A device's own list: its block's chain, transposed. -/
def lst0 (x : FVec F S512x4096 .f32) : FVec F S16x512 .f32 :=
  transpose S16x512 [1, 0] (cols (mxB (truncf .bf16 x bitsLt_bf16_f32))) transposes_S512x16_p1_0_S16x512

/-- Device `c`'s list after `r` rounds, of the devices' blocks `x`. -/
def lst (x : Dev nD → FVec F S512x4096 .f32) : ℕ → Dev nD → FVec F S16x512 .f32
  | 0, c => lst0 (x c)
  | r + 1, c => rows (mxC (stack (lst x r c) (lst x r (flip r c))))

/-- The result a device writes. -/
def outOf (x : Dev nD → FVec F S512x4096 .f32) (c : Dev nD) : FVec F S512x16 .f32 :=
  transpose S512x16 [1, 0] (lst x 5 c) transposes_S16x512_p1_0_S512x16

/-- The landing buffer once all five pages have landed. -/
def landed (x : Dev nD → FVec F S512x4096 .f32) (c : Dev nD) : FVec F S5x16x512 .f32 := fun i =>
  lst x (i 0).val (flip (i 0).val c) (ix2 (i 1) (i 2))

/-! ## Reads and writes -/

theorem hz2 : (![0, 0] : Fin 2 → Nat) = fun _ => 0 := funext fun a => by fin_cases a <;> rfl

/-- Row `j` of the list replaced. -/
def setRow (j : Fin 16) (w : FVec F S1x512 .f32) (f : FVec F S16x512 .f32) : FVec F S16x512 .f32 := fun i =>
  if (i 0).val = j.val then w (ix2 0 (i 1)) else f i

/-- Column `j` of the local list replaced. -/
def setCol (j : Fin 16) (w : FVec F S512x1 .f32) (f : FVec F S512x16 .f32) : FVec F S512x16 .f32 := fun i =>
  if (i 1).val = j.val then w (ix2 (i 0) 0) else f i

theorem write_row (j : Fin 16) (w : FVec F S1x512 .f32) (f : FVec F S16x512 .f32) :
    ((lM.access (Rect.unit (s := S16x512) ![j.val, 0] S1x512.size (inb_row j)) : View sig .tc _ _ _).write (Elt F) f w Finset.univ
      : FVec F S16x512 .f32) = setRow j w f := by
  funext i
  unfold setRow
  split_ifs with h
  · have he : (lM.access (Rect.unit (s := S16x512) ![j.val, 0] S1x512.size (inb_row j)) : View sig .tc _ _ _).emb (ix2 0 (i 1)) = i := by
      funext a
      refine Fin.ext ((rect_emb_unit_val _ _ (inb_row j) _ a).trans ?_)
      fin_cases a
      · exact (Nat.add_zero _).trans h.symm
      · exact Nat.zero_add _
    have := View.write_emb_of_mem (v := (lM.access (Rect.unit (s := S16x512) ![j.val, 0] S1x512.size (inb_row j)) : View sig .tc _ _ _))
      (Val := Elt F) f w (M := Finset.univ) (x := ix2 0 (i 1)) (Finset.mem_univ _)
    rw [he] at this
    exact this
  · refine View.write_of_not_mem (Val := Elt F)
      (v := (lM.access (Rect.unit (s := S16x512) ![j.val, 0] S1x512.size (inb_row j)) : View sig .tc _ _ _)) f w Finset.univ fun hm => h ?_
    have hm' := (mem_set_slice_whole_iff cc0_scratch2 _ i Rect.mem_set_unit).mp hm
    have h0 := hm' 0
    have h1 : j.val ≤ (i 0).val := h0.1
    have h2 : (i 0).val < j.val + 1 := h0.2
    omega

theorem write_col (j : Fin 16) (w : FVec F S512x1 .f32) (f : FVec F S512x16 .f32) :
    ((sM.access (Rect.unit (s := S512x16) ![0, j.val] S512x1.size (inb_col j)) : View sig .tc _ _ _).write (Elt F) f w Finset.univ
      : FVec F S512x16 .f32) = setCol j w f := by
  funext i
  unfold setCol
  split_ifs with h
  · have he : (sM.access (Rect.unit (s := S512x16) ![0, j.val] S512x1.size (inb_col j)) : View sig .tc _ _ _).emb (ix2 (i 0) 0) = i := by
      funext a
      refine Fin.ext ((rect_emb_unit_val _ _ (inb_col j) _ a).trans ?_)
      fin_cases a
      · exact Nat.zero_add _
      · exact (Nat.add_zero _).trans h.symm
    have := View.write_emb_of_mem (v := (sM.access (Rect.unit (s := S512x16) ![0, j.val] S512x1.size (inb_col j)) : View sig .tc _ _ _))
      (Val := Elt F) f w (M := Finset.univ) (x := ix2 (i 0) 0) (Finset.mem_univ _)
    rw [he] at this
    exact this
  · refine View.write_of_not_mem (Val := Elt F)
      (v := (sM.access (Rect.unit (s := S512x16) ![0, j.val] S512x1.size (inb_col j)) : View sig .tc _ _ _)) f w Finset.univ fun hm => h ?_
    have hm' := (mem_set_slice_whole_iff cc0_scratch1 _ i Rect.mem_set_unit).mp hm
    have h0 := hm' 1
    have h1 : j.val ≤ (i 1).val := h0.1
    have h2 : (i 1).val < j.val + 1 := h0.2
    omega

/-- The two halves of the candidate buffer written, whatever it held. -/
theorem write_halves (a b : FVec F S16x512 .f32) (f : FVec F S32x512 .f32) :
    ((cM.access (Rect.unit (s := S32x512) ![16, 0] S16x512.size inb_S32x512_S16x512_16_0) : View sig .tc _ _ _).write (Elt F)
      ((cM.access (Rect.unit (s := S32x512) ![0, 0] S16x512.size inb_S32x512_S16x512_0_0) : View sig .tc _ _ _).write (Elt F) f a Finset.univ)
      b Finset.univ : FVec F S32x512 .f32) = stack a b := by
  funext i
  unfold stack
  have hi : (i 0).val < 32 := (i 0).isLt
  split_ifs with h
  · refine (View.write_of_not_mem (Val := Elt F)
      (v := (cM.access (Rect.unit (s := S32x512) ![16, 0] S16x512.size inb_S32x512_S16x512_16_0) : View sig .tc _ _ _)) _ b Finset.univ fun hm => ?_).trans ?_
    · have hm' := (mem_set_slice_whole_iff cc0_scratch3 _ i Rect.mem_set_unit).mp hm
      have h1 : 16 ≤ (i 0).val := (hm' 0).1
      omega
    · have he : (cM.access (Rect.unit (s := S32x512) ![0, 0] S16x512.size inb_S32x512_S16x512_0_0) : View sig .tc _ _ _).emb (ix2 ⟨(i 0).val, h⟩ (i 1)) = i := by
        funext a
        refine Fin.ext ((rect_emb_unit_val _ _ inb_S32x512_S16x512_0_0 _ a).trans ?_)
        fin_cases a <;> exact Nat.zero_add _
      have := View.write_emb_of_mem (v := (cM.access (Rect.unit (s := S32x512) ![0, 0] S16x512.size inb_S32x512_S16x512_0_0) : View sig .tc _ _ _))
        (Val := Elt F) f a (M := Finset.univ) (x := ix2 ⟨(i 0).val, h⟩ (i 1)) (Finset.mem_univ _)
      rw [he] at this
      exact this
  · have he : (cM.access (Rect.unit (s := S32x512) ![16, 0] S16x512.size inb_S32x512_S16x512_16_0) : View sig .tc _ _ _).emb
        (ix2 ⟨(i 0).val - 16, by omega⟩ (i 1)) = i := by
      funext a
      refine Fin.ext ((rect_emb_unit_val _ _ inb_S32x512_S16x512_16_0 _ a).trans ?_)
      fin_cases a
      · show 16 + ((i 0).val - 16) = (i 0).val
        omega
      · exact Nat.zero_add _
    have := View.write_emb_of_mem (v := (cM.access (Rect.unit (s := S32x512) ![16, 0] S16x512.size inb_S32x512_S16x512_16_0) : View sig .tc _ _ _))
      (Val := Elt F) ((cM.access (Rect.unit (s := S32x512) ![0, 0] S16x512.size inb_S32x512_S16x512_0_0) : View sig .tc _ _ _).write (Elt F) f a Finset.univ)
      b (M := Finset.univ) (x := ix2 ⟨(i 0).val - 16, by omega⟩ (i 1)) (Finset.mem_univ _)
    rw [he] at this
    exact this

/-! ## Filling a list row by row -/

/-- The rows below `k` hold the chain `g`. -/
def RowsTo (k : ℕ) (g : ℕ → FVec F S1x512 .f32) (f : FVec F S16x512 .f32) : Prop := ∀ i : S16x512.Idx, (i 0).val < k → f i = rows g i

theorem RowsTo.zero (g : ℕ → FVec F S1x512 .f32) (f : FVec F S16x512 .f32) : RowsTo 0 g f := fun _ h => absurd h (Nat.not_lt_zero _)

theorem RowsTo.step {g : ℕ → FVec F S1x512 .f32} {f : FVec F S16x512 .f32} (j : Fin 16) (h : RowsTo j.val g f) :
    RowsTo (j.val + 1) g (setRow j (g j.val) f) := fun i hi => by
  unfold setRow
  split_ifs with h'
  · unfold rows; rw [h']
  · exact h i (by omega)

theorem RowsTo.all {g : ℕ → FVec F S1x512 .f32} {f : FVec F S16x512 .f32} (h : RowsTo 16 g f) : f = rows g :=
  funext fun i => h i (i 0).isLt

/-- The columns below `k` hold the chain `g`, widened. -/
def ColsTo (k : ℕ) (g : ℕ → FVec F S512x1 .bf16) (f : FVec F S512x16 .f32) : Prop := ∀ i : S512x16.Idx, (i 1).val < k → f i = cols g i

theorem ColsTo.zero (g : ℕ → FVec F S512x1 .bf16) (f : FVec F S512x16 .f32) : ColsTo 0 g f := fun _ h => absurd h (Nat.not_lt_zero _)

theorem ColsTo.step {g : ℕ → FVec F S512x1 .bf16} {f : FVec F S512x16 .f32} (j : Fin 16) (h : ColsTo j.val g f) :
    ColsTo (j.val + 1) g (setCol j (extf .f32 (g j.val) bitsLt_bf16_f32) f) := fun i hi => by
  unfold setCol
  split_ifs with h'
  · unfold cols; rw [h']
  · exact h i (by omega)

theorem ColsTo.all {g : ℕ → FVec F S512x1 .bf16} {f : FVec F S512x16 .f32} (h : ColsTo 16 g f) : f = cols g :=
  funext fun i => h i (i 1).isLt

/-- The rows after row `k`, in order. -/
theorem rest16_eq : rest16 = (List.finRange 16).drop 1 := by decide

/-! ## The landing buffer, page by page -/

/-- Where index `x` of page `r` lies in the landing buffer. -/
theorem page_emb (r : Fin 5) (x : S16x512.Idx) : (page r).view.emb x = (ix3 r (x 0) (x 1) : S5x16x512.Idx) := by
  show (Rect.unit (s := S5x16x512) ![r.val, 0, 0] S1x16x512.size (inb_page r)).emb
    (Shape.reshapeEquiv (squeezes_S1x16x512_S16x512 : S1x16x512.Squeezes S16x512).numel_eq x) = _
  rw [Shape.reshapeEquiv_eq_of_rowMajor _ (y := (ix3 0 (x 0) (x 1) : S1x16x512.Idx)) (by
    rw [Shape.rowMajor_val_three, Shape.rowMajor_val_two]
    show (0 * _ + _) * _ + _ = _
    rw [Nat.zero_mul, Nat.zero_add]; rfl)]
  funext a
  refine Fin.ext ((rect_emb_unit_val _ _ (inb_page r) _ a).trans ?_)
  fin_cases a
  · exact Nat.add_zero _
  · exact Nat.zero_add _
  · exact Nat.zero_add _

/-- Page `r` is the elements whose first coordinate is `r`. -/
theorem mem_page (r : Fin 5) (i : S5x16x512.Idx) : i ∈ (page r).view.set ↔ (i 0).val = r.val := by
  constructor
  · intro h
    obtain ⟨x, -, rfl⟩ := Finset.mem_map.mp h
    rw [page_emb]
  · intro h
    refine Finset.mem_map.mpr ⟨ix2 (i 1) (i 2), Finset.mem_univ _, (page_emb r _).trans ?_⟩
    funext a
    refine Fin.ext ?_
    fin_cases a
    · exact h.symm
    · rfl
    · rfl

/-- Page `r`'s elements, as elements of the landing buffer. -/
abbrev pageSet (r : Fin 5) : Finset S5x16x512.Idx := (page r).view.set

theorem page_disjoint (r r' : Fin 5) (h : r ≠ r') : Disjoint (pageSet r) (pageSet r') :=
  Finset.disjoint_left.mpr fun i hi hi' => h (Fin.ext (((mem_page r i).mp hi).symm.trans ((mem_page r' i).mp hi')))

theorem page_cover : (Finset.univ : Finset (Fin 5)).biUnion pageSet = Finset.univ :=
  Finset.eq_univ_of_forall fun i => Finset.mem_biUnion.mpr ⟨i 0, Finset.mem_univ _, (mem_page _ i).mpr rfl⟩

/-- The partner's list, landed on page `r`, is the landing buffer's final contents there. -/
theorem landed_write (x : Dev nD → FVec F S512x4096 .f32) (c : Dev nD) (r : Fin 5) (fd : FVec F S5x16x512 .f32) (i : S5x16x512.Idx)
    (hi : i ∈ (page r).view.set) :
    (page r).view.write (Elt F) fd (lM.view.read (Elt F) (lst x r.val (flip r.val c))) Finset.univ i = landed x c i := by
  obtain ⟨y, -, rfl⟩ := Finset.mem_map.mp hi
  rw [View.write_emb_of_mem _ _ (Finset.mem_univ _), page_emb]
  show lst x r.val (flip r.val c) y = lst x r.val (flip r.val c) (ix2 (y 0) (y 1))
  exact congrArg (lst x r.val (flip r.val c)) (eq_ix2 y)

/-- What is read back off page `r`. -/
theorem landed_read (x : Dev nD → FVec F S512x4096 .f32) (c : Dev nD) (r : Fin 5) :
    shapeCast S16x512 (mM.view.readAt (Elt F) (Rect.unit (s := S5x16x512) ![r.val, 0, 0] S1x16x512.size (inb_page r)).toLoadRect (landed x c)
      : FVec F S1x16x512 .f32) shapeCasts_S1x16x512_S16x512 = lst x r.val (flip r.val c) := by
  funext j
  refine (shapeCast_apply _ shapeCasts_S1x16x512_S16x512 j (ix3 0 (j 0) (j 1)) (by
    rw [Shape.rowMajor_val_three, Shape.rowMajor_val_two]
    show (0 * _ + _) * _ + _ = _
    rw [Nat.zero_mul, Nat.zero_add]; rfl)).trans ?_
  show landed x c ((Rect.unit (s := S5x16x512) ![r.val, 0, 0] S1x16x512.size (inb_page r)).emb (ix3 0 (j 0) (j 1))) = _
  have he : (Rect.unit (s := S5x16x512) ![r.val, 0, 0] S1x16x512.size (inb_page r)).emb (ix3 0 (j 0) (j 1)) = (ix3 r (j 0) (j 1) : S5x16x512.Idx) := by
    funext a
    refine Fin.ext ((rect_emb_unit_val _ _ (inb_page r) _ a).trans ?_)
    fin_cases a
    · exact Nat.add_zero _
    · exact Nat.zero_add _
    · exact Nat.zero_add _
  rw [he]
  show lst x r.val (flip r.val c) (ix2 (j 0) (j 1)) = _
  exact congrArg (lst x r.val (flip r.val c)) (eq_ix2 j).symm

/-- The elements a load of page `r` reads are the page's. -/
theorem page_load_set (r : Fin 5) :
    mM.view.setOn (Rect.unit (s := S5x16x512) ![r.val, 0, 0] S1x16x512.size (inb_page r)).toLoadRect.set ⊆ (page r).view.set := fun i hi => by
  obtain ⟨y, hy, rfl⟩ := Finset.mem_map.mp hi
  refine (mem_page r y).mpr ?_
  have h0 := (Rect.mem_set_unit.mp hy) 0
  have h1 : r.val ≤ (y 0).val := h0.1
  have h2 : (y 0).val < r.val + 1 := h0.2
  omega

end Cert.TopK

end
-- ==== Proof.Steps.lean ====
/-
# 01_k — the pieces of the body that touch one device's memory only

Each piece as an entailment to its weakest precondition before any continuation: the local phase, the gathering of
the two lists, the merge, the last transposition. A loop of sixteen steps is one induction over the rows left.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.TopK

open Cert.KernelIdeal Cert.KernelIdeal.Gen
open Idealize.ShloMosaic Idealize.ShloMosaic.ValueKit Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

/-- The rounds' ghost state: five duties at most at a cell. -/
abbrev UB : Type := URounds (GSem nD τ sig) (Fin 5)
abbrev UU : Type := UR sig nD τ × UB

local notation "𝕄" => MT nD τ sig Unit (Elt F) ℕ UU ℕ

abbrev 𝒱₀ : Variants := Variants.none

/-- The weakest precondition of a piece of device `c`'s body. -/
abbrev W {α : Type} (c : Dev nD) (p : Bdy F α) (Q : α → sProp 𝕄) : sProp 𝕄 :=
  wp frame (wpE (defs₀ (F := F)) 𝒱₀ (c : Thread nD τ) none) Set.univ p Q

/-- A piece, then the rest. -/
theorem W_bind {α β : Type} (c : Dev nD) (p : Bdy F α) (k : α → Bdy F β) (Q : β → sProp 𝕄) :
    W c (p >>= k) Q = W c p fun a => W c (k a) Q := wp_bind _ _ _ p k Q

theorem W_pure {α : Type} (c : Dev nD) (a : α) (Q : α → sProp 𝕄) : Q a ⊢ W c (pure a) Q := le_wp_ret _ _ _ a Q

abbrev pX (c : Dev nD) (f : FVec F S512x4096 .f32) : sProp 𝕄 := ((c : Thread nD τ).loc cc0_stg0_0) ↦{fullShare} f
abbrev pO (c : Dev nD) (f : FVec F S512x16 .f32) : sProp 𝕄 := ((c : Thread nD τ).loc cc0_stg1_0) ↦{fullShare} f
abbrev pB (c : Dev nD) (f : FVec F S512x4096 .bf16) : sProp 𝕄 := ((c : Thread nD τ).loc cc0_scratch0) ↦{fullShare} f
abbrev pS (c : Dev nD) (f : FVec F S512x16 .f32) : sProp 𝕄 := ((c : Thread nD τ).loc cc0_scratch1) ↦{fullShare} f
abbrev pL (c : Dev nD) (f : FVec F S16x512 .f32) : sProp 𝕄 := ((c : Thread nD τ).loc cc0_scratch2) ↦{fullShare} f
abbrev pC (c : Dev nD) (f : FVec F S32x512 .f32) : sProp 𝕄 := ((c : Thread nD τ).loc cc0_scratch3) ↦{fullShare} f
/-- Page `r` of the landing buffer. -/
def pM (r : Fin 5) (c : Dev nD) (f : FVec F S5x16x512 .f32) : sProp 𝕄 := ((c : Thread nD τ).loc cc0_scratch4) ↦[pageSet r]{fullShare} f

/-! ## Loads and stores -/

section Pieces
variable (c : Dev nD)

theorem wp_loadC (f : FVec F S32x512 .f32) (Q : FVec F S32x512 .f32 → sProp 𝕄) :
    iprop(pC c f ∗ (pC c f -∗ Q f)) ⊢ W c loadC Q := by
  iintro ⟨H, HQ⟩
  unfold loadC
  simp only [W, Prog.lift]
  iapply (wp_load 𝒱₀ (c : Thread nD τ) none Set.univ (m := cM) (Finset.subset_univ _)) $$ H; iintro H
  rw [show (cM.view.readAt (Elt F) (Rect.unit (s := S32x512) ![0, 0] S32x512.size inb_S32x512_S32x512_0_0).toLoadRect f : FVec F S32x512 .f32) = f
    from Memref.readAt_unit_zero (Elt F) cc0_scratch3 hz2 _ f, wp_ret]
  imodintro
  iapply HQ; iexact H

theorem wp_loadB (f : FVec F S512x4096 .bf16) (Q : FVec F S512x4096 .bf16 → sProp 𝕄) :
    iprop(pB c f ∗ (pB c f -∗ Q f)) ⊢ W c loadB Q := by
  iintro ⟨H, HQ⟩
  unfold loadB
  simp only [W, Prog.lift]
  iapply (wp_load 𝒱₀ (c : Thread nD τ) none Set.univ (m := bM) (Finset.subset_univ _)) $$ H; iintro H
  rw [show (bM.view.readAt (Elt F) (Rect.unit (s := S512x4096) ![0, 0] S512x4096.size inb_S512x4096_S512x4096_0_0).toLoadRect f : FVec F S512x4096 .bf16) = f
    from Memref.readAt_unit_zero (Elt F) cc0_scratch0 hz2 _ f, wp_ret]
  imodintro
  iapply HQ; iexact H

theorem wp_putL (j : Fin 16) (w : FVec F S1x512 .f32) (f : FVec F S16x512 .f32) (Q : PUnit → sProp 𝕄) :
    iprop(pL c f ∗ (pL c (setRow j w f) -∗ Q ⟨⟩)) ⊢ W c (putL j w) Q := by
  iintro ⟨H, HQ⟩
  unfold putL
  simp only [W, Prog.lift, Prog.bind_op, Prog.bind_ret, shapeCast_self]
  iapply (wp_load 𝒱₀ (c : Thread nD τ) none Set.univ (m := lM) (Finset.subset_univ _)) $$ H; iintro H
  iapply (wp_store 𝒱₀ (c : Thread nD τ) none Set.univ (m := lM) (r := Rect.unit (s := S16x512) ![j.val, 0] S1x512.size (inb_row j))
    (Mk := Finset.univ) (Finset.subset_univ _)) $$ H; iintro H
  rw [wp_ret]
  imodintro
  iapply HQ
  iapply (Entails.of_eq (congrArg (fun g => pL (F := F) c g) (write_row j w f))) $$ H

theorem wp_putS (j : Fin 16) (w : FVec F S512x1 .bf16) (f : FVec F S512x16 .f32) (Q : PUnit → sProp 𝕄) :
    iprop(pS c f ∗ (pS c (setCol j (extf .f32 w bitsLt_bf16_f32) f) -∗ Q ⟨⟩)) ⊢ W c (putS j w) Q := by
  iintro ⟨H, HQ⟩
  unfold putS
  simp only [W, Prog.lift, Prog.bind_op, Prog.bind_ret, shapeCast_self]
  iapply (wp_load 𝒱₀ (c : Thread nD τ) none Set.univ (m := sM) (Finset.subset_univ _)) $$ H; iintro H
  iapply (wp_store 𝒱₀ (c : Thread nD τ) none Set.univ (m := sM) (r := Rect.unit (s := S512x16) ![0, j.val] S512x1.size (inb_col j))
    (Mk := Finset.univ) (Finset.subset_univ _)) $$ H; iintro H
  rw [wp_ret]
  imodintro
  iapply HQ
  iapply (Entails.of_eq (congrArg (fun g => pS (F := F) c g) (write_col j (extf .f32 w bitsLt_bf16_f32) f))) $$ H

/-! ## The loops -/

/-- The steps of the merge from row `k + 1` on: the chain continues to the last row. -/
theorem wp_stepsC (v : FVec F S32x512 .f32) (n : ℕ) : ∀ (k : ℕ), k + n = 15 → ∀ (f : FVec F S16x512 .f32), RowsTo (k + 1) (mxC v) f →
    ∀ Q : PUnit → sProp 𝕄,
    iprop(pC c v ∗ pL c f ∗ (pC c v -∗ pL c (rows (mxC v)) -∗ Q ⟨⟩)) ⊢ W c (stepsC ((List.finRange 16).drop (k + 1)) (mxC v k)) Q := by
  induction n with
  | zero =>
    intro k hk f hf Q
    obtain rfl : k = 15 := by omega
    rw [show (List.finRange 16).drop (15 + 1) = [] from rfl, hf.all]
    iintro ⟨HC, HL, HQ⟩
    iapply (W_pure c)
    iapply HQ $$ HC HL
  | succ n ih =>
    intro k hk f hf Q
    have hlt : k + 1 < (List.finRange 16).length := by rw [List.length_finRange]; omega
    rw [List.drop_eq_getElem_cons hlt]
    have hj : ((List.finRange 16)[k + 1]).val = k + 1 := by rw [List.getElem_finRange]; rfl
    generalize (List.finRange 16)[k + 1] = j at hj
    have hf' := RowsTo.step j (hj ▸ hf)
    rw [hj] at hf'
    show _ ⊢ W c (stepC j (mxC v k) >>= fun mx' => stepsC ((List.finRange 16).drop (k + 1 + 1)) mx') Q
    unfold stepC
    simp only [W_bind]
    iintro ⟨HC, HL, HQ⟩
    iapply (wp_loadC c v); isplitl [HC]; · iexact HC
    iintro HC
    iapply (wp_loadC c v); isplitl [HC]; · iexact HC
    iintro HC
    iapply (wp_putL c j (topC (belowC (mxC v k) v v)) f); isplitl [HL]; · iexact HL
    iintro HL
    iapply (W_pure c)
    iapply (ih (k + 1) (by omega) (setRow j (mxC v (k + 1)) f) hf' Q)
    isplitl [HC]; · iexact HC
    isplitl [HL]; · iexact HL
    iexact HQ

/-- The merge leaves the chain of the candidates in the list. -/
theorem wp_merge (v : FVec F S32x512 .f32) (f : FVec F S16x512 .f32) (Q : PUnit → sProp 𝕄) :
    iprop(pC c v ∗ pL c f ∗ (pC c v -∗ pL c (rows (mxC v)) -∗ Q ⟨⟩)) ⊢ W c merge Q := by
  unfold merge
  simp only [W_bind, rest16_eq]
  iintro ⟨HC, HL, HQ⟩
  iapply (wp_loadC c v); isplitl [HC]; · iexact HC
  iintro HC
  iapply (wp_putL c 0 (topC v) f); isplitl [HL]; · iexact HL
  iintro HL
  iapply (wp_stepsC c v 15 0 rfl (setRow 0 (mxC v 0) f) (RowsTo.step 0 (RowsTo.zero _ f)) Q)
  isplitl [HC]; · iexact HC
  isplitl [HL]; · iexact HL
  iexact HQ

/-- The steps of the local extraction from column `k + 1` on. -/
theorem wp_stepsB (v : FVec F S512x4096 .bf16) (n : ℕ) : ∀ (k : ℕ), k + n = 15 → ∀ (f : FVec F S512x16 .f32), ColsTo (k + 1) (mxB v) f →
    ∀ Q : PUnit → sProp 𝕄,
    iprop(pB c v ∗ pS c f ∗ (pB c v -∗ pS c (cols (mxB v)) -∗ Q ⟨⟩)) ⊢ W c (stepsB ((List.finRange 16).drop (k + 1)) (mxB v k)) Q := by
  induction n with
  | zero =>
    intro k hk f hf Q
    obtain rfl : k = 15 := by omega
    rw [show (List.finRange 16).drop (15 + 1) = [] from rfl, hf.all]
    iintro ⟨HB, HS, HQ⟩
    iapply (W_pure c)
    iapply HQ $$ HB HS
  | succ n ih =>
    intro k hk f hf Q
    have hlt : k + 1 < (List.finRange 16).length := by rw [List.length_finRange]; omega
    rw [List.drop_eq_getElem_cons hlt]
    have hj : ((List.finRange 16)[k + 1]).val = k + 1 := by rw [List.getElem_finRange]; rfl
    generalize (List.finRange 16)[k + 1] = j at hj
    have hf' := ColsTo.step j (hj ▸ hf)
    rw [hj] at hf'
    show _ ⊢ W c (stepB j (mxB v k) >>= fun mx' => stepsB ((List.finRange 16).drop (k + 1 + 1)) mx') Q
    unfold stepB
    simp only [W_bind]
    iintro ⟨HB, HS, HQ⟩
    iapply (wp_loadB c v); isplitl [HB]; · iexact HB
    iintro HB
    iapply (wp_loadB c v); isplitl [HB]; · iexact HB
    iintro HB
    iapply (wp_putS c j (topB (belowB (mxB v k) v v)) f); isplitl [HS]; · iexact HS
    iintro HS
    iapply (W_pure c)
    iapply (ih (k + 1) (by omega) (setCol j (extf .f32 (mxB v (k + 1)) bitsLt_bf16_f32) f) hf' Q)
    isplitl [HB]; · iexact HB
    isplitl [HS]; · iexact HS
    iexact HQ

/-! ## The phases -/

/-- The local phase leaves the device's own list. -/
theorem wp_localPhase (x : FVec F S512x4096 .f32) (b : FVec F S512x4096 .bf16) (s : FVec F S512x16 .f32) (l : FVec F S16x512 .f32) (Q : PUnit → sProp 𝕄) :
    iprop(pX c x ∗ pB c b ∗ pS c s ∗ pL c l ∗ (pX c x -∗ (∃ b, pB c b) -∗ (∃ s, pS c s) -∗ pL c (lst0 x) -∗ Q ⟨⟩)) ⊢ W c localPhase Q := by
  unfold localPhase lst0
  simp only [W_bind, rest16_eq, shapeCast_self]
  iintro ⟨HX, HB, HS, HL, HQ⟩
  simp only [W, Prog.lift]
  iapply (wp_load 𝒱₀ (c : Thread nD τ) none Set.univ (m := xM) (Finset.subset_univ _)) $$ HX; iintro HX
  rw [show (xM.view.readAt (Elt F) (Rect.unit (s := S512x4096) ![0, 0] S512x4096.size inb_S512x4096_S512x4096_0_0).toLoadRect x : FVec F S512x4096 .f32) = x
    from Memref.readAt_unit_zero (Elt F) cc0_stg0_0 hz2 _ x]
  iapply (le_wp_ret _ _ _ _ _)
  iapply (wp_loadB c b); isplitl [HB]; · iexact HB
  iintro HB
  iapply (wp_store 𝒱₀ (c : Thread nD τ) none Set.univ (m := bM) (r := Rect.unit (s := S512x4096) ![0, 0] S512x4096.size inb_S512x4096_S512x4096_0_0)
    (Mk := Finset.univ) (Finset.subset_univ _)) $$ HB; iintro HB
  ihave HB := (Entails.of_eq (congrArg (fun g => pB (F := F) c g)
    (Memref.write_access_unit_zero_univ (Elt F) cc0_scratch0 hz2 inb_S512x4096_S512x4096_0_0 b (truncf .bf16 x bitsLt_bf16_f32)))) $$ HB
  iapply (le_wp_ret _ _ _ _ _)
  iapply (wp_loadB c (truncf .bf16 x bitsLt_bf16_f32)); isplitl [HB]; · iexact HB
  iintro HB
  iapply (wp_putS c 0 (topB (truncf .bf16 x bitsLt_bf16_f32)) s); isplitl [HS]; · iexact HS
  iintro HS
  iapply (wp_stepsB c (truncf .bf16 x bitsLt_bf16_f32) 15 0 rfl _ (ColsTo.step 0 (ColsTo.zero _ s)))
  isplitl [HB]; · iexact HB
  isplitl [HS]; · iexact HS
  iintro HB HS
  iapply (wp_load 𝒱₀ (c : Thread nD τ) none Set.univ (m := sM) (Finset.subset_univ _)) $$ HS; iintro HS
  rw [show (sM.view.readAt (Elt F) (Rect.unit (s := S512x16) ![0, 0] S512x16.size inb_S512x16_S512x16_0_0).toLoadRect
      (cols (mxB (truncf .bf16 x bitsLt_bf16_f32))) : FVec F S512x16 .f32) = cols (mxB (truncf .bf16 x bitsLt_bf16_f32))
    from Memref.readAt_unit_zero (Elt F) cc0_scratch1 hz2 _ _]
  iapply (le_wp_ret _ _ _ _ _)
  iapply (wp_load 𝒱₀ (c : Thread nD τ) none Set.univ (m := lM) (Finset.subset_univ _)) $$ HL; iintro HL
  iapply (le_wp_ret _ _ _ _ _)
  iapply (wp_store 𝒱₀ (c : Thread nD τ) none Set.univ (m := lM) (r := Rect.unit (s := S16x512) ![0, 0] S16x512.size inb_S16x512_S16x512_0_0)
    (Mk := Finset.univ) (Finset.subset_univ _)) $$ HL; iintro HL
  ihave HL := (Entails.of_eq (congrArg (fun g => pL (F := F) c g)
    (Memref.write_access_unit_zero_univ (Elt F) cc0_scratch2 hz2 inb_S16x512_S16x512_0_0 l
      (transpose S16x512 [1, 0] (cols (mxB (truncf .bf16 x bitsLt_bf16_f32))) transposes_S512x16_p1_0_S16x512)))) $$ HL
  iapply (le_wp_ret _ _ _ _ _)
  iapply HQ $$ HX [HB] [HS] HL
  · iexists _; iexact HB
  · iexists _; iexact HS

/-- The list and the landed page, one above the other. -/
theorem wp_gather (r : Fin 5) (x : Dev nD → FVec F S512x4096 .f32) (l : FVec F S16x512 .f32) (v : FVec F S32x512 .f32) (Q : PUnit → sProp 𝕄) :
    iprop(pL c l ∗ pC c v ∗ pM r c (landed x c)
        ∗ (pL c l -∗ pC c (stack l (lst x r.val (flip r.val c))) -∗ pM r c (landed x c) -∗ Q ⟨⟩)) ⊢ W c (gather r) Q := by
  unfold gather
  simp only [W_bind, shapeCast_self]
  iintro ⟨HL, HC, HM, HQ⟩
  simp only [W, Prog.lift]
  iapply (wp_load 𝒱₀ (c : Thread nD τ) none Set.univ (m := lM) (Finset.subset_univ _)) $$ HL; iintro HL
  rw [show (lM.view.readAt (Elt F) (Rect.unit (s := S16x512) ![0, 0] S16x512.size inb_S16x512_S16x512_0_0).toLoadRect l : FVec F S16x512 .f32) = l
    from Memref.readAt_unit_zero (Elt F) cc0_scratch2 hz2 _ l]
  iapply (le_wp_ret _ _ _ _ _)
  iapply (wp_load 𝒱₀ (c : Thread nD τ) none Set.univ (m := cM) (Finset.subset_univ _)) $$ HC; iintro HC
  iapply (le_wp_ret _ _ _ _ _)
  iapply (wp_store 𝒱₀ (c : Thread nD τ) none Set.univ (m := cM) (r := Rect.unit (s := S32x512) ![0, 0] S16x512.size inb_S32x512_S16x512_0_0)
    (Mk := Finset.univ) (Finset.subset_univ _)) $$ HC; iintro HC
  iapply (le_wp_ret _ _ _ _ _)
  unfold pM
  iapply (wp_load 𝒱₀ (c : Thread nD τ) none Set.univ (m := mM) (S := pageSet r) (page_load_set r)) $$ HM; iintro HM
  iapply (le_wp_ret _ _ _ _ _)
  simp only [landed_read x c r]
  iapply (wp_load 𝒱₀ (c : Thread nD τ) none Set.univ (m := cM) (Finset.subset_univ _)) $$ HC; iintro HC
  iapply (le_wp_ret _ _ _ _ _)
  iapply (wp_store 𝒱₀ (c : Thread nD τ) none Set.univ (m := cM) (r := Rect.unit (s := S32x512) ![16, 0] S16x512.size inb_S32x512_S16x512_16_0)
    (Mk := Finset.univ) (Finset.subset_univ _)) $$ HC; iintro HC
  ihave HC := (Entails.of_eq (congrArg (fun g => pC (F := F) c g) (write_halves l (lst x r.val (flip r.val c)) v))) $$ HC
  iapply (le_wp_ret _ _ _ _ _)
  iapply HQ $$ HL HC HM

/-- The list transposed into the result. -/
theorem wp_finish (l : FVec F S16x512 .f32) (o : FVec F S512x16 .f32) (Q : PUnit → sProp 𝕄) :
    iprop(pL c l ∗ pO c o ∗ (pL c l -∗ pO c (transpose S512x16 [1, 0] l transposes_S16x512_p1_0_S512x16) -∗ Q ⟨⟩)) ⊢ W c finish Q := by
  unfold finish
  simp only [W_bind]
  iintro ⟨HL, HO, HQ⟩
  simp only [W, Prog.lift]
  iapply (wp_load 𝒱₀ (c : Thread nD τ) none Set.univ (m := lM) (Finset.subset_univ _)) $$ HL; iintro HL
  rw [show (lM.view.readAt (Elt F) (Rect.unit (s := S16x512) ![0, 0] S16x512.size inb_S16x512_S16x512_0_0).toLoadRect l : FVec F S16x512 .f32) = l
    from Memref.readAt_unit_zero (Elt F) cc0_scratch2 hz2 _ l]
  iapply (le_wp_ret _ _ _ _ _)
  iapply (wp_load 𝒱₀ (c : Thread nD τ) none Set.univ (m := oM) (Finset.subset_univ _)) $$ HO; iintro HO
  iapply (le_wp_ret _ _ _ _ _)
  iapply (wp_store 𝒱₀ (c : Thread nD τ) none Set.univ (m := oM) (r := Rect.unit (s := S512x16) ![0, 0] S512x16.size inb_S512x16_S512x16_0_0)
    (Mk := Finset.univ) (Finset.subset_univ _)) $$ HO; iintro HO
  ihave HO := (Entails.of_eq (congrArg (fun g => pO (F := F) c g)
    (Memref.write_access_unit_zero_univ (Elt F) cc0_stg1_0 hz2 inb_S512x16_S512x16_0_0 o (transpose S512x16 [1, 0] l transposes_S16x512_p1_0_S512x16)))) $$ HO
  iapply (le_wp_ret _ _ _ _ _)
  iapply HQ $$ HL HO

end Pieces

end Cert.TopK

end
-- ==== Proof.Protocol.lean ====
/-
# 01_k — the exchange as a schedule of rounds

Every device holds eleven semaphores of the exchange: the barrier's, and for each of the five rounds one that counts
the copy it sends and one that counts the copy it is sent. All of them are used once. A barrier signal of round `r`
gives its receiver the right to write page `r` of the sender's landing buffer; a landed copy gives the receiver that
page at the partner's list; a sent copy gives the sender its own list back.
-/
module

public import proofs.«01_k».proof.Proof.Steps

@[expose] public section

set_option maxRecDepth 16384

noncomputable section

namespace Cert.TopK

open Cert.KernelIdeal Cert.KernelIdeal.Gen
open Idealize.ShloMosaic Idealize.ShloMosaic.ValueKit Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- What a semaphore is for. -/
inductive Role where
  | bar | snd (r : Fin 5) | rcv (r : Fin 5) | other
  deriving DecidableEq

def roleOf : SemLoc sig → Role
  | .reg _ => .bar
  | .dma s => if 7 ≤ s.val then .rcv ⟨(s.val - 7) % 5, Nat.mod_lt _ (by decide)⟩
      else if 2 ≤ s.val then .snd ⟨(s.val - 2) % 5, Nat.mod_lt _ (by decide)⟩ else .other

theorem role_bar : roleOf (.reg barS) = .bar := rfl
theorem role_snd (r : Fin 5) : roleOf (.dma (sendS r).sem) = .snd r := by revert r; decide
theorem role_rcv (r : Fin 5) : roleOf (.dma (recvS r).sem) = .rcv r := by revert r; decide

abbrev barCell (c : Dev nD) : GSem nD τ sig := ((c : Thread nD τ), .reg barS)
abbrev sendCell (r : Fin 5) (c : Dev nD) : GSem nD τ sig := ((c : Thread nD τ), .dma (sendS r).sem)
abbrev recvCell (r : Fin 5) (c : Dev nD) : GSem nD τ sig := ((c : Thread nD τ), .dma (recvS r).sem)

/-- The semaphores the call allocates: the sending ones, then the receiving ones; -/
abbrev osem : Fin 5 ⊕ Fin 5 → SemLoc sig := fun | .inl r => .dma (sendS r).sem | .inr r => .dma (recvS r).sem
/-- and with the barrier's in front. -/
abbrev csem : Unit ⊕ (Fin 5 ⊕ Fin 5) → SemLoc sig := fun | .inl _ => .reg barS | .inr k => osem k
abbrev Cl : Type := Unit ⊕ (Fin 5 ⊕ Fin 5)
abbrev cellAt (ck : Dev nD × Cl) : GSem nD τ sig := ((ck.1 : Thread nD τ), csem ck.2)

/-- What one copy of the list adds to the semaphores at its ends. -/
abbrev N : ℕ := (lM : Memref sig .tc .vmem S16x512 .f32).view.dmaCredit
theorem N_pos : 0 < N := View.dmaCredit_pos _ (by decide)
theorem page_credit (r : Fin 5) : (page r).view.dmaCredit = N := rfl

/-! ## The schedule -/

variable (x : Dev nD → FVec F S512x4096 .f32)

/-- The barrier signal of round `r` to device `c` lets `c` write page `r` of its partner. -/
def barPay (r : Fin 5) (c : Dev nD) : sProp 𝕄 := iprop(∃ f, pM (F := F) r (flip r.val c) f)
def sendPay (r : Fin 5) (c : Dev nD) : sProp 𝕄 := pL c (lst x r.val c)
def recvPay (r : Fin 5) (c : Dev nD) : sProp 𝕄 := pM r c (landed x c)

def dutiesOf : Role → Finset (Fin 5)
  | .bar => Finset.univ | .snd _ => {0} | .rcv _ => {0} | .other => ∅

def amountOf : Role → ℕ
  | .bar => 1 | _ => N

def payOf (d : Fin 5) (c : Dev nD) : Role → sProp 𝕄
  | .bar => barPay d c | .snd r => sendPay x r c | .rcv r => recvPay x r c | .other => iprop(emp)

/-- One round: five units to a barrier, one from each partner, and one copy to every other cell. -/
def sched : Rounds.Schedule (GSem nD τ sig) (Fin 5) 𝕄 where
  duties g r := if r = 0 ∧ g.1.2 = .tc then dutiesOf (roleOf g.2) else ∅
  unitless _ := False
  amount g _ _ := amountOf (roleOf g.2)
  payload g _ d := payOf x d g.1.1 (roleOf g.2)
  amount_pos g _ _ _ := by
    cases roleOf g.2
    · exact Nat.one_pos
    all_goals exact N_pos

omit [FloatOps F] in
instance pM_storable (r : Fin 5) (c : Dev nD) (f) : BI.Storable (upEmb : UEmb _ 𝕄) (pM (F := F) r c f) := by unfold pM; infer_instance

instance sched_storable (g : GSem nD τ sig) (r : ℕ) (d : Fin 5) :
    BI.Storable (upEmb : UEmb _ 𝕄) ((sched x).payload g r d) := by
  show BI.Storable upEmb (payOf x d g.1.1 (roleOf g.2))
  cases roleOf g.2 with
  | bar => show BI.Storable upEmb (barPay (F := F) d g.1.1); unfold barPay; infer_instance
  | snd r => show BI.Storable upEmb (sendPay x r g.1.1); unfold sendPay; infer_instance
  | rcv r => show BI.Storable upEmb (recvPay x r g.1.1); unfold recvPay; infer_instance
  | other => show BI.Storable upEmb (iprop(emp) : sProp 𝕄); infer_instance

section Sched
variable (c : Dev nD) (r d : Fin 5)

theorem duties_of (g : GSem nD τ sig) (h : g.1.2 = .tc) : (sched x).duties g 0 = dutiesOf (roleOf g.2) := if_pos ⟨rfl, h⟩
theorem duties_bar : (sched x).duties (barCell c) 0 = Finset.univ := duties_of x _ rfl
theorem duties_send : (sched x).duties (sendCell r c) 0 = {0} := (duties_of x _ rfl).trans (by rw [role_snd]; rfl)
theorem duties_recv : (sched x).duties (recvCell r c) 0 = {0} := (duties_of x _ rfl).trans (by rw [role_rcv]; rfl)
theorem duties_later (g : GSem nD τ sig) : ∀ n, 1 ≤ n → (sched x).duties g n = ∅ :=
  fun n hn => if_neg fun h => absurd h.1 (by omega)

theorem amount_bar : (sched x).amount (barCell c) 0 d = 1 := rfl
theorem amount_send : (sched x).amount (sendCell r c) 0 d = N := by show amountOf (roleOf _) = N; rw [role_snd]; rfl
theorem amount_recv : (sched x).amount (recvCell r c) 0 d = N := by show amountOf (roleOf _) = N; rw [role_rcv]; rfl

theorem expect_bar : (sched x).expect (barCell c) 0 = 5 := by
  unfold Schedule.expect Schedule.amountOf
  rw [duties_bar, Finset.sum_congr rfl fun d _ => amount_bar x c d, Finset.sum_const, Finset.card_univ, Fintype.card_fin, smul_eq_mul]
theorem expect_send : (sched x).expect (sendCell r c) 0 = N := by
  unfold Schedule.expect Schedule.amountOf; rw [duties_send, Finset.sum_singleton, amount_send]
theorem expect_recv : (sched x).expect (recvCell r c) 0 = N := by
  unfold Schedule.expect Schedule.amountOf; rw [duties_recv, Finset.sum_singleton, amount_recv]

theorem payload_bar : (sched x).payload (barCell c) 0 d = barPay (F := F) d c := rfl
theorem payload_send : (sched x).payload (sendCell r c) 0 d = sendPay x r c := by
  show payOf x d c (roleOf _) = _; rw [role_snd]; rfl
theorem payload_recv : (sched x).payload (recvCell r c) 0 d = recvPay x r c := by
  show payOf x d c (roleOf _) = _; rw [role_rcv]; rfl

theorem rest_bar : bigSep ((sched x).duties (barCell c) 0 \ ∅) (fun d => (sched x).payload (barCell c) 0 d) = bigSep Finset.univ fun d : Fin 5 => barPay (F := F) d c := by
  rw [Finset.sdiff_empty, duties_bar]; rfl
theorem rest_send : bigSep ((sched x).duties (sendCell r c) 0 \ ∅) (fun d => (sched x).payload (sendCell r c) 0 d) = sendPay x r c := by
  rw [Finset.sdiff_empty, duties_send, bigSep_singleton, payload_send]
theorem rest_recv : bigSep ((sched x).duties (recvCell r c) 0 \ ∅) (fun d => (sched x).payload (recvCell r c) 0 d) = recvPay x r c := by
  rw [Finset.sdiff_empty, duties_recv, bigSep_singleton, payload_recv]

end Sched

/-! ## What a device owes, and the levels -/

/-- The copies of the rounds `rs`, each owed to the partner's receiving cell; the first of them is the last summand. -/
def owedX (c : Dev nD) : List (Fin 5) → CellTallies nD τ sig Unit
  | [] => 0
  | r :: rs => owedX c rs + tallyAt (recvCell r (flip r.val c)) () N

def all5 : List (Fin 5) := [0, 1, 2, 3, 4]

/-- The signals of the rounds `rs`, and all the copies. -/
def owedB (c : Dev nD) : List (Fin 5) → CellTallies nD τ sig Unit
  | [] => owedX c all5
  | r :: rs => owedB c rs + tallyAt (barCell (flip r.val c)) () 1

theorem owedX_pos {c : Dev nD} {rs : List (Fin 5)} {g : GSem nD τ sig} {u : Unit} (h : 0 < owedX c rs g u) :
    ∃ r ∈ rs, g = recvCell r (flip r.val c) := by
  induction rs with
  | nil => exact absurd h (Nat.lt_irrefl 0)
  | cons r rs ih =>
    rw [owedX, Pi.add_apply, Finsupp.add_apply, tallyAt_apply] at h
    by_cases hg : g = recvCell r (flip r.val c) ∧ u = ()
    · exact ⟨r, List.mem_cons_self, hg.1⟩
    · rw [if_neg hg] at h
      obtain ⟨r', hr', e⟩ := ih h
      exact ⟨r', List.mem_cons_of_mem _ hr', e⟩

theorem owedB_pos {c : Dev nD} {rs : List (Fin 5)} {g : GSem nD τ sig} {u : Unit} (h : 0 < owedB c rs g u) :
    (∃ r : Fin 5, g = recvCell r (flip r.val c)) ∨ ∃ r : Fin 5, g = barCell (flip r.val c) := by
  induction rs with
  | nil => obtain ⟨r, _, e⟩ := owedX_pos h; exact .inl ⟨r, e⟩
  | cons r rs ih =>
    rw [owedB, Pi.add_apply, Finsupp.add_apply, tallyAt_apply] at h
    by_cases hg : g = barCell (flip r.val c) ∧ u = ()
    · exact .inr ⟨r, hg.1⟩
    · rw [if_neg hg] at h; exact ih h

def L (g : GSem nD τ sig) : Finset Unit := if g.1.2 = .tc then {()} else ∅

def lvRole : Role → ℕ
  | .bar => 1 | .rcv r => 2 + r.val | _ => 0

/-- A barrier lies below every receiving cell, an earlier round's below a later one's, everything else at the bottom. -/
def lv (g : GSem nD τ sig) (_ : Unit) : ℕ := lvRole (roleOf g.2)

theorem L_of_ne (g : GSem nD τ sig) (h : g.1.2 ≠ .tc) : L g = ∅ := if_neg h
theorem L_tc (c : Dev nD) (sm : SemLoc sig) : L ((c : Thread nD τ), sm) = {()} := if_pos rfl

theorem lv_recv (r : Fin 5) (c : Dev nD) (u : Unit) : lv (recvCell r c) u = 2 + r.val := by unfold lv; rw [role_rcv]; rfl
theorem lv_bar (c : Dev nD) (u : Unit) : lv (barCell c) u = 1 := rfl

omit [FloatOps F] in
/-- A device may wait at a cell below all it owes. -/
theorem mayWait_of (c : Dev nD) (sm : SemLoc sig) (O : CellTallies nD τ sig Unit)
    (h : ∀ g u, 0 < O g u → (∃ c' sm', g = (((c' : Dev nD) : Thread nD τ), sm')) ∧ lvRole (roleOf sm) < lv g u) :
    (levAts L lv : sProp 𝕄) ⊢ MayWait (c : Thread nD τ) sm () O :=
  MayOwe.of_cut (L := L) (lev := lv) (lvRole (roleOf sm))
    (fun p hp => by rw [Finset.mem_singleton.mp hp, L_tc]; exact Finset.mem_singleton_self _)
    (fun g u hg => by obtain ⟨⟨c', sm', rfl⟩, _⟩ := h g u hg; rw [L_tc]; exact Finset.mem_singleton_self _)
    (fun p hp => by rw [Finset.mem_singleton.mp hp]; exact le_refl _)
    (fun g u hg => (h g u hg).2)

omit [FloatOps F] in
/-- At a cell of the bottom level a device may wait whatever it owes of the exchange. -/
theorem mayWait_low (c : Dev nD) (sm : SemLoc sig) (hs : lvRole (roleOf sm) = 0) (rs : List (Fin 5)) :
    (levAts L lv : sProp 𝕄) ⊢ MayWait (c : Thread nD τ) sm () (owedB c rs) :=
  mayWait_of c sm _ fun g u hg => by
    rw [hs]
    rcases owedB_pos hg with ⟨r, rfl⟩ | ⟨r, rfl⟩
    · exact ⟨⟨_, _, rfl⟩, by rw [lv_recv]; omega⟩
    · exact ⟨⟨_, _, rfl⟩, by rw [lv_bar]; omega⟩

omit [FloatOps F] in
/-- While only copies are owed a device may wait at a cell below their receiving cells. -/
theorem mayWait_copies (c : Dev nD) (sm : SemLoc sig) (rs : List (Fin 5)) (h : ∀ r ∈ rs, lvRole (roleOf sm) < 2 + r.val) :
    (levAts L lv : sProp 𝕄) ⊢ MayWait (c : Thread nD τ) sm () (owedX c rs) :=
  mayWait_of c sm _ fun g u hg => by
    obtain ⟨r, hr, rfl⟩ := owedX_pos hg
    exact ⟨⟨_, _, rfl⟩, by rw [lv_recv]; exact h r hr⟩

omit [FloatOps F] in
theorem mayWait_none (c : Dev nD) (sm : SemLoc sig) : (levAts L lv : sProp 𝕄) ⊢ MayWait (c : Thread nD τ) sm () 0 := by
  rw [MayWait_zero]; iintro -; iempintro

/-! ## The records and a device's own part -/

/-- The cells' invariants, under the names they were allocated at, and that every cell has reached its round: what
    all devices share. -/
def records (K : Dev nD × Cl → ℕ) : sProp 𝕄 :=
  iprop((bigSep Finset.univ fun ck : Dev nD × Cl => cellInv ER (sched x) (K ck) (cellAt ck))
    ∗ bigSep Finset.univ fun ck : Dev nD × Cl => reached (ER (F := F)) (cellAt ck) 0)

instance records_persistent (K : Dev nD × Cl → ℕ) : BI.Persistent (records x K) := by unfold records; infer_instance

theorem inv_of (K : Dev nD × Cl → ℕ) (ck : Dev nD × Cl) : records x K ⊢ cellInv ER (sched x) (K ck) (cellAt ck) :=
  (BI.sep_and.trans and_elimL).trans (bigSep_elim (Finset.mem_univ ck))

theorem reached_of (K : Dev nD × Cl → ℕ) (ck : Dev nD × Cl) : records x K ⊢ reached (ER (F := F)) (cellAt ck) 0 :=
  (BI.sep_and.trans and_elimR).trans (bigSep_elim (Finset.mem_univ ck))

/-- Device `c`'s own part of round `r`: its places at its two cells, the tokens it pays the copy with, and the credit
    of the copy it is sent. -/
def lin (r : Fin 5) (c : Dev nD) : sProp 𝕄 :=
  iprop(atPos (ER (F := F)) (sendCell r c) 0 ∅ 0 ∗ atPos (ER (F := F)) (recvCell r c) 0 ∅ 0
    ∗ dutyTok (ER (F := F)) (sendCell r c) 0 0 ∗ dutyTok (ER (F := F)) (recvCell r (flip r.val c)) 0 0
    ∗ cred (tallyAt (recvCell r c) () N))

end Cert.TopK

end
-- ==== Proof.Exchange.lean ====
/-
# 01_k — the pieces of the body that talk to other devices

The barrier, and one round at a symbolic `r`: the copy, its two waits, and the merge after it.
-/
module

public import proofs.«01_k».proof.Proof.Protocol

@[expose] public section

set_option maxRecDepth 16384

noncomputable section

namespace Cert.TopK

open Cert.KernelIdeal Cert.KernelIdeal.Gen
open Idealize.ShloMosaic Idealize.ShloMosaic.ValueKit Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
/-- Five things, one by one. -/
theorem five (Φ : Fin 5 → sProp 𝕄) : bigSep Finset.univ Φ = iprop(Φ 0 ∗ Φ 1 ∗ Φ 2 ∗ Φ 3 ∗ Φ 4) :=
  bigSep_univ_eq_bigSepL [(0 : Fin 5), 1, 2, 3, 4] (by decide) (by decide) Φ

variable (x : Dev nD → FVec F S512x4096 .f32) (K : Dev nD × Cl → ℕ) (c : Dev nD)

/-- The signal of round `r`: the page of that round handed to the partner, one unit less owed. -/
theorem wp_signal_one (r : Fin 5) (rs : List (Fin 5)) (V : Waits sig Unit) (f : FVec F S5x16x512 .f32) (Q : PUnit → sProp 𝕄) :
    iprop(records x K ∗ owes (c : Thread nD τ) (owedB c (r :: rs)) V ∗ dutyTok (ER (F := F)) (barCell (flip r.val c)) 0 r ∗ pM r c f
        ∗ (owes (c : Thread nD τ) (owedB c rs) V -∗ Q ⟨⟩))
      ⊢ W c (semSignalWord (sigDev r c) barS 1#32) Q := by
  rw [sigDev_eq]
  iintro ⟨#HR, HO, Ht, HM, Hk⟩
  unfold W semSignalWord
  iapply (Rounds.wp_signal 𝒱₀ ER (sched x) (c : Thread nD τ) none (dst := (flip r.val c : Thread nD τ)) (κ := K (flip r.val c, .inl ()))
      (d := r) (by rw [duties_bar]; exact Finset.mem_univ _) ((amount_bar x (flip r.val c) r).trans (by decide)) () (owedB c rs) rfl)
    $$ [HO Ht HM]
  · isplitr; · iapply (inv_of x K (flip r.val c, .inl ())); iexact HR
    isplitl [HO]; · iexact HO
    isplitl [Ht]; · iexact Ht
    isplitl [HM]
    · rw [payload_bar]; unfold barPay; rw [flip_flip]; iexists f; iexact HM
    iapply (reached_of x K (flip r.val c, .inl ())); iexact HR
  iintro HO
  iapply (le_wp_ret _ _ _ _ _)
  iapply Hk; iexact HO

/-- The wait for the five signals: the partners' pages are the device's to write. -/
theorem wp_bar_wait (V : Waits sig Unit) (Q : PUnit → sProp 𝕄) :
    iprop(records x K ∗ levAts L lv ∗ owes (c : Thread nD τ) (owedX c all5) V ∗ atPos (ER (F := F)) (barCell c) 0 ∅ 0 ∗ cred (tallyAt (barCell c) () 5)
        ∗ ((∃ V', owes (c : Thread nD τ) (owedX c all5) V') -∗ (bigSep Finset.univ fun r : Fin 5 => barPay (F := F) r c) -∗ semVal (barCell c) 0 -∗ Q ⟨⟩))
      ⊢ W c (semWaitWord barS 5#32) Q := by
  iintro ⟨#HR, #Hlev, HO, Hat, Hc, Hk⟩
  unfold W semWaitWord
  iapply (Rounds.wp_wait_rest_token 𝒱₀ ER (sched x) (c : Thread nD τ) none (κ := K (c, .inl ()))
      (wpE_semWait_eq 𝒱₀ (c : Thread nD τ) none Set.univ) (Set.mem_univ _) () (O := owedX c all5) (W := V) (R := 0) (m := 0) (T := ∅)
      (by rw [expect_bar]; decide)) $$ [Hc HO Hat]
  · isplitr; · iapply (inv_of x K (c, .inl ())); iexact HR
    isplitl [Hc]; · iexact Hc
    isplitl [HO]; · iexact HO
    isplitr
    · iapply (mayWait_copies c (.reg barS) all5 (fun r _ => by show 1 < 2 + r.val; omega)); iexact Hlev
    iexact Hat
  iintro ⟨HO, Hat, -, Hpay⟩
  ihave Hp := (Entails.of_eq (rest_bar x c)) $$ Hpay
  imod (Rounds.cell_close ER (sched x) (Set.mem_univ (K (c, .inl ()))) (fun h => h) (R := 0 + 1) (duties_later x (barCell c))) $$ [Hat] with HzB
  · isplitr; · iapply (inv_of x K (c, .inl ())); iexact HR
    iexact Hat
  iapply (le_wp_ret _ _ _ _ _)
  iapply Hk $$ [HO] Hp HzB
  iexists _; iexact HO

/-- The whole barrier. -/
theorem wp_barrier (V : Waits sig Unit) (f : FVec F S5x16x512 .f32) (Q : PUnit → sProp 𝕄) :
    iprop(records x K ∗ levAts L lv ∗ owes (c : Thread nD τ) (owedB c all5) V ∗ atPos (ER (F := F)) (barCell c) 0 ∅ 0 ∗ cred (tallyAt (barCell c) () 5)
        ∗ (bigSep Finset.univ fun r : Fin 5 => dutyTok (ER (F := F)) (barCell (flip r.val c)) 0 r) ∗ (bigSep Finset.univ fun r : Fin 5 => pM r c f)
        ∗ ((∃ V', owes (c : Thread nD τ) (owedX c all5) V') -∗ (bigSep Finset.univ fun r : Fin 5 => barPay (F := F) r c) -∗ semVal (barCell c) 0 -∗ Q ⟨⟩))
      ⊢ W c (barrier c) Q := by
  rw [five (fun r : Fin 5 => dutyTok (ER (F := F)) (barCell (flip r.val c)) 0 r), five (fun r : Fin 5 => pM r c f)]
  unfold barrier all5
  rw [W_bind, show (fun a : PUnit => W c (do semSignalWord (sigDev 1 c) barS 1#32; semSignalWord (sigDev 2 c) barS 1#32; semSignalWord (sigDev 3 c) barS 1#32; semSignalWord (sigDev 4 c) barS 1#32; semWaitWord barS 5#32 : Bdy F PUnit) Q)
    = fun _ => W c (semSignalWord (sigDev 1 c) barS 1#32) fun _ => W c (semSignalWord (sigDev 2 c) barS 1#32) fun _ => W c (semSignalWord (sigDev 3 c) barS 1#32) fun _ => W c (semSignalWord (sigDev 4 c) barS 1#32) fun _ => W c (semWaitWord barS 5#32) Q
    from by simp only [W_bind]]
  iintro ⟨#HR, #Hlev, HO, Hat, Hc, ⟨T0, T1, T2, T3, T4⟩, ⟨M0, M1, M2, M3, M4⟩, Hk⟩
  iapply (wp_signal_one x K c 0 [1, 2, 3, 4] V f)
  isplitr; · iexact HR
  isplitl [HO]; · iexact HO
  isplitl [T0]; · iexact T0
  isplitl [M0]; · iexact M0
  iintro HO
  iapply (wp_signal_one x K c 1 [2, 3, 4] V f)
  isplitr; · iexact HR
  isplitl [HO]; · iexact HO
  isplitl [T1]; · iexact T1
  isplitl [M1]; · iexact M1
  iintro HO
  iapply (wp_signal_one x K c 2 [3, 4] V f)
  isplitr; · iexact HR
  isplitl [HO]; · iexact HO
  isplitl [T2]; · iexact T2
  isplitl [M2]; · iexact M2
  iintro HO
  iapply (wp_signal_one x K c 3 [4] V f)
  isplitr; · iexact HR
  isplitl [HO]; · iexact HO
  isplitl [T3]; · iexact T3
  isplitl [M3]; · iexact M3
  iintro HO
  iapply (wp_signal_one x K c 4 [] V f)
  isplitr; · iexact HR
  isplitl [HO]; · iexact HO
  isplitl [T4]; · iexact T4
  isplitl [M4]; · iexact M4
  iintro HO
  iapply (wp_bar_wait x K c V)
  isplitr; · iexact HR
  isplitr; · iexact Hlev
  isplitl [HO]; · iexact HO
  isplitl [Hat]; · iexact Hat
  isplitl [Hc]; · iexact Hc
  iexact Hk

/-- The copy of round `r`: the list goes out, the partner's page is rewritten with it. -/
theorem wp_copy (r : Fin 5) (rs : List (Fin 5)) (fn : FVec F S5x16x512 .f32) {hsc : (page r : Memref sig (Dev.tc (flip r.val c) : Thread nD τ).2.kind .vmem S16x512 .f32).view.ref.isScScratch = false}
    {hsrc : (lM : Memref sig .tc .vmem S16x512 .f32).view.WordExact} {hdst : (page r : Memref sig .tc .vmem S16x512 .f32).view.WordExact}
    {hsem : DmaTarget.Typed .vmem (.dma (recvS r).sem) (.remote (Dev.tc (flip r.val c) : Thread nD τ) (page r : Memref sig .tc .vmem S16x512 .f32) (.dma (sendS r).sem) hsc)}
    {α : Type} {Q : α → sProp 𝕄} {k : PUnit → Prog (TpuEff nD τ sig (Elt F) Λ₀ .tc) α} (V : Waits sig Unit) :
    iprop(cellInv ER (sched x) (K (c, .inr (.inl r))) (sendCell r c) ∗ cellInv ER (sched x) (K (flip r.val c, .inr (.inr r))) (recvCell r (flip r.val c))
        ∗ pL c (lst x r.val c) ∗ pM r (flip r.val c) fn
        ∗ owes (c : Thread nD τ) (owedX c (r :: rs)) V
        ∗ dutyTok (ER (F := F)) (sendCell r c) 0 0 ∗ reached (ER (F := F)) (sendCell r c) 0
        ∗ dutyTok (ER (F := F)) (recvCell r (flip r.val c)) 0 0 ∗ reached (ER (F := F)) (recvCell r (flip r.val c)) 0)
      ⊢ iprop(((cred (tallyAt (sendCell r c) () N) ∗ owes (c : Thread nD τ) (owedX c rs) V) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma lM (.remote (Dev.tc (flip r.val c) : Thread nD τ) (page r) (.dma (sendS r).sem) hsc) (.dma (recvS r).sem) hsrc hdst hsem) k) Q) := by
  have hset : (lM : Memref sig .tc .vmem S16x512 .f32).view.set = Finset.univ := View.set_whole _
  have hL : pL c (lst x r.val c) = ((lM : Memref sig .tc .vmem S16x512 .f32).view.loc (c : Thread nD τ) ↦[(lM : Memref sig .tc .vmem S16x512 .f32).view.set]{fullShare} lst x r.val c : sProp 𝕄) := by
    rw [hset]
  have hM : pM r (flip r.val c) fn = ((page r).view.loc (flip r.val c : Thread nD τ) ↦[(page r).view.set]{fullShare} fn : sProp 𝕄) := rfl
  rw [hL, hM]
  exact Rounds.wp_send_pointsTo 𝒱₀ ER (sched x) (c : Thread nD τ) none (κ₁ := K (c, .inr (.inl r))) (κ₂ := K (flip r.val c, .inr (.inr r)))
    (c' := (flip r.val c : Thread nD τ)) (src := lM) (dst := page r) (sS := .dma (sendS r).sem) (sem := .dma (recvS r).sem) (hsc := hsc) (hsrc := hsrc) (hdst := hdst) (hsem := hsem)
    (r₁ := 0) (r₂ := 0) (d₁ := 0) (d₂ := 0) (fs := lst x r.val c) (fd := fn)
    (by rw [duties_send]; exact Finset.mem_singleton_self _) (by rw [duties_recv]; exact Finset.mem_singleton_self _)
    () () N (page_credit r) (amount_send x c r 0) (amount_recv x (flip r.val c) r 0) (owedX c rs) rfl (W := V)
    (by rw [payload_send]; unfold sendPay; rw [hL])
    (by
      rw [payload_recv]; unfold recvPay pM
      refine Entails.of_eq (pointsTo_congr fun i hi => ?_)
      have h := landed_write x (flip r.val c) r fn i hi
      rw [flip_flip] at h
      exact h)

/-- The exchange of round `r`: the copy sent and awaited, the partner's copy awaited. Afterwards the list is the
    device's again, its page `r` holds the partner's list, and the two cells are closed. -/
theorem wp_exchange (r : Fin 5) (rs : List (Fin 5)) (hrs : ∀ r' ∈ rs, r.val < r'.val) (V : Waits sig Unit) (Q : PUnit → sProp 𝕄) :
    iprop(records x K ∗ levAts L lv ∗ owes (c : Thread nD τ) (owedX c (r :: rs)) V ∗ lin r c ∗ barPay r c ∗ pL c (lst x r.val c)
        ∗ ((∃ V', owes (c : Thread nD τ) (owedX c rs) V') -∗ pL c (lst x r.val c) -∗ pM r c (landed x c) -∗ semVal (sendCell r c) 0 -∗ semVal (recvCell r c) 0 -∗ Q ⟨⟩))
      ⊢ W c (exchange r (cpyDev r c)) Q := by
  rw [cpyDev_eq]
  unfold lin barPay
  iintro ⟨#HR, #Hlev, HO, ⟨HatS, HatV, HtS, HtV, HcV⟩, ⟨%fn, HM⟩, HL, Hk⟩
  unfold W exchange
  simp only [Prog.lift, Prog.bind_op, Prog.bind_ret, Prog.pure_eq_ret]
  iapply (wp_copy x K c r rs fn V) $$ [HL HM HO HtS HtV]
  · isplitr; · iapply (inv_of x K (c, .inr (.inl r))); iexact HR
    isplitr; · iapply (inv_of x K (flip r.val c, .inr (.inr r))); iexact HR
    isplitl [HL]; · iexact HL
    isplitl [HM]; · iexact HM
    isplitl [HO]; · iexact HO
    isplitl [HtS]; · iexact HtS
    isplitr; · iapply (reached_of x K (c, .inr (.inl r))); iexact HR
    isplitl [HtV]; · iexact HtV
    iapply (reached_of x K (flip r.val c, .inr (.inr r))); iexact HR
  iintro ⟨HcS, HO⟩
  iapply (Rounds.wp_wait_rest_token 𝒱₀ ER (sched x) (c : Thread nD τ) none (κ := K (c, .inr (.inl r)))
      (wpE_waitDma2_eq 𝒱₀ (c : Thread nD τ) none Set.univ) (Set.mem_univ _) () (O := owedX c rs) (W := V) (R := 0) (m := 0) (T := ∅)
      (by rw [Nat.zero_add, expect_send])) $$ [HcS HO HatS]
  · isplitr; · iapply (inv_of x K (c, .inr (.inl r))); iexact HR
    isplitl [HcS]; · iexact HcS
    isplitl [HO]; · iexact HO
    isplitr
    · iapply (mayWait_copies c (.dma (sendS r).sem) rs (fun r' _ => by rw [role_snd]; show 0 < 2 + r'.val; omega)); iexact Hlev
    iexact HatS
  iintro ⟨HO, HatS, -, Hpay⟩
  ihave HL := (Entails.of_eq (rest_send x c r)) $$ Hpay
  iapply (Rounds.wp_wait_rest_token 𝒱₀ ER (sched x) (c : Thread nD τ) none (κ := K (c, .inr (.inr r)))
      (wpE_waitDma2_eq 𝒱₀ (c : Thread nD τ) none Set.univ) (Set.mem_univ _) () (O := owedX c rs)
      (W := insert (SemLoc.dma (sendS r).sem, ()) V) (R := 0) (m := 0) (T := ∅)
      (by rw [Nat.zero_add, expect_recv])) $$ [HcV HO HatV]
  · isplitr; · iapply (inv_of x K (c, .inr (.inr r))); iexact HR
    isplitl [HcV]; · iexact HcV
    isplitl [HO]; · iexact HO
    isplitr
    · iapply (mayWait_copies c (.dma (recvS r).sem) rs (fun r' h => by rw [role_rcv]; show 2 + r.val < 2 + r'.val; have := hrs r' h; omega)); iexact Hlev
    iexact HatV
  iintro ⟨HO, HatV, -, Hpay⟩
  ihave HM := (Entails.of_eq (rest_recv x c r)) $$ Hpay
  imod (Rounds.cell_close ER (sched x) (Set.mem_univ (K (c, .inr (.inl r)))) (fun h => h) (R := 0 + 1) (duties_later x (sendCell r c))) $$ [HatS] with HzS
  · isplitr; · iapply (inv_of x K (c, .inr (.inl r))); iexact HR
    iexact HatS
  imod (Rounds.cell_close ER (sched x) (Set.mem_univ (K (c, .inr (.inr r)))) (fun h => h) (R := 0 + 1) (duties_later x (recvCell r c))) $$ [HatV] with HzV
  · isplitr; · iapply (inv_of x K (c, .inr (.inr r))); iexact HR
    iexact HatV
  iapply (le_wp_ret _ _ _ _ _)
  unfold sendPay recvPay
  iapply Hk $$ [HO] HL HM HzS HzV
  iexists _; iexact HO

/-- Round `r`, from one list to the next. -/
theorem wp_round (r : Fin 5) (rs : List (Fin 5)) (hrs : ∀ r' ∈ rs, r.val < r'.val) (Q : PUnit → sProp 𝕄) :
    iprop(records x K ∗ levAts L lv ∗ (∃ V, owes (c : Thread nD τ) (owedX c (r :: rs)) V) ∗ lin r c ∗ barPay r c ∗ pL c (lst x r.val c) ∗ (∃ v, pC (F := F) c v)
        ∗ ((∃ V', owes (c : Thread nD τ) (owedX c rs) V') -∗ pL c (lst x (r.val + 1) c) -∗ (∃ v, pC (F := F) c v) -∗ pM r c (landed x c)
            -∗ semVal (sendCell r c) 0 -∗ semVal (recvCell r c) 0 -∗ Q ⟨⟩))
      ⊢ W c (round r c) Q := by
  unfold round
  rw [W_bind]
  iintro ⟨#HR, #Hlev, ⟨%V, HO⟩, Hlin, Hbar, HL, ⟨%v, HC⟩, Hk⟩
  iapply (wp_exchange x K c r rs hrs V)
  isplitr; · iexact HR
  isplitr; · iexact Hlev
  isplitl [HO]; · iexact HO
  isplitl [Hlin]; · iexact Hlin
  isplitl [Hbar]; · iexact Hbar
  isplitl [HL]; · iexact HL
  iintro HO HL HM HzS HzV
  rw [W_bind]
  iapply (wp_gather c r x (lst x r.val c) v)
  isplitl [HL]; · iexact HL
  isplitl [HC]; · iexact HC
  isplitl [HM]; · iexact HM
  iintro HL HC HM
  iapply (wp_merge c (stack (lst x r.val c) (lst x r.val (flip r.val c))) (lst x r.val c))
  isplitl [HC]; · iexact HC
  isplitl [HL]; · iexact HL
  iintro HC HL
  ihave HL := (Entails.of_eq (show pL c (rows (mxC (stack (lst x r.val c) (lst x r.val (flip r.val c))))) = pL c (lst x (r.val + 1) c) from rfl)) $$ HL
  iapply Hk $$ HO HL [HC] HM HzS HzV
  iexists _; iexact HC

end Cert.TopK

end
-- ==== Proof.Body.lean ====
/-
# 01_k — the whole body on one device

From a device's block in its staging buffer and its part of the exchange to its result in the other staging buffer,
every semaphore it used closed at zero.
-/
module

public import proofs.«01_k».proof.Proof.Exchange
public import Idealize.ShloMosaic.Lib.Ring

@[expose] public section

set_option maxRecDepth 16384

noncomputable section

namespace Cert.TopK

open Cert.KernelIdeal Cert.KernelIdeal.Gen
open Idealize.ShloMosaic Idealize.ShloMosaic.ValueKit Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Whole
variable (x : Dev nD → FVec F S512x4096 .f32) (K : Dev nD × Cl → ℕ) (c : Dev nD)

/-- Device `c`'s whole part of the exchange. -/
def part : sProp 𝕄 :=
  iprop(atPos (ER (F := F)) (barCell c) 0 ∅ 0 ∗ cred (tallyAt (barCell c) () 5)
    ∗ (bigSep Finset.univ fun r : Fin 5 => dutyTok (ER (F := F)) (barCell (flip r.val c)) 0 r) ∗ bigSep Finset.univ fun r : Fin 5 => lin (F := F) r c)

/-- The call's scratch buffers, at some contents. -/
def scratch : sProp 𝕄 :=
  iprop((∃ f, pB (F := F) c f) ∗ (∃ f, pS (F := F) c f) ∗ (∃ f, pL (F := F) c f) ∗ (∃ f, pC (F := F) c f)
    ∗ ∃ f : FVec F S5x16x512 .f32, (((c : Thread nD τ).loc cc0_scratch4) ↦{fullShare} f))

/-- The exchange's semaphores at zero. -/
def closed : sProp 𝕄 :=
  iprop(semVal (barCell c) 0 ∗ (bigSep Finset.univ fun r : Fin 5 => semVal (sendCell r c) 0) ∗ bigSep Finset.univ fun r : Fin 5 => semVal (recvCell r c) 0)

omit [FloatOps F] in
/-- The landing buffer is its five pages. -/
theorem pages_eq (f : FVec F S5x16x512 .f32) :
    (((c : Thread nD τ).loc cc0_scratch4) ↦{fullShare} f : sProp 𝕄) = bigSep Finset.univ fun r : Fin 5 => pM r c f := by
  let I : Fin 5 → Finset (Idx ((c : Thread nD τ).loc cc0_scratch4)) := fun r => pageSet r
  have hc : Finset.univ.biUnion I = Finset.univ :=
    Finset.eq_univ_of_forall fun i => Finset.mem_biUnion.mpr ⟨i 0, Finset.mem_univ _, (mem_page _ i).mpr rfl⟩
  have hd : ∀ r r' : Fin 5, r ≠ r' → Disjoint (I r) (I r') := fun r r' h => page_disjoint r r' h
  let g : Buf (Elt F) ((c : Thread nD τ).loc cc0_scratch4) := f
  have h1 := Ring.pointsTo_blocks (Ix := Unit) (Name := ℕ) (U := UU) (Lvl := ℕ) (q := fullShare) I hd hc g
  unfold pM
  exact h1

/-- The body. -/
theorem wp_body (V : Waits sig Unit) (o : FVec F S512x16 .f32) (Q : PUnit → sProp 𝕄) :
    iprop(records x K ∗ levAts L lv ∗ part c ∗ owes (c : Thread nD τ) (owedB c all5) V ∗ pX c (x c) ∗ pO c o ∗ scratch (F := F) c
        ∗ ((∃ V', owes (c : Thread nD τ) 0 V') -∗ pX c (x c) -∗ pO c (outOf x c) -∗ scratch (F := F) c -∗ closed (F := F) c -∗ Q ⟨⟩))
      ⊢ W c wholeBody Q := by
  unfold wholeBody part scratch closed
  iintro ⟨#HR, #Hlev, ⟨Hat, Hcr, Htok, Hlin⟩, HO, HX, Hout, ⟨⟨%b, HB⟩, ⟨%s, HS⟩, ⟨%l, HL⟩, HC, ⟨%f, HM⟩⟩, Hk⟩
  rw [W_bind]
  unfold W Prog.lift
  rw [wp_deviceId]
  iapply (le_wp_ret _ _ _ _ _)
  ihave HM := (Entails.of_eq (pages_eq c f)) $$ HM
  ihave Hlin := (Entails.of_eq (five fun r : Fin 5 => lin (F := F) r c)) $$ Hlin
  icases Hlin with ⟨L0, L1, L2, L3, L4⟩
  have e : ∀ p q : Bdy F PUnit, wp frame (wpE (defs₀ (F := F)) 𝒱₀ (c : Thread nD τ) none) Set.univ (p >>= fun _ => q) Q = W c p fun _ => W c q Q :=
    fun p q => W_bind c p (fun _ => q) Q
  rw [e]
  iapply (wp_barrier x K c V f)
  isplitr; · iexact HR
  isplitr; · iexact Hlev
  isplitl [HO]; · iexact HO
  isplitl [Hat]; · iexact Hat
  isplitl [Hcr]; · iexact Hcr
  isplitl [Htok]; · iexact Htok
  isplitl [HM]; · iexact HM
  iintro HO Hbar HzB
  ihave Hbar := (Entails.of_eq (five fun r : Fin 5 => barPay (F := F) r c)) $$ Hbar
  icases Hbar with ⟨B0, B1, B2, B3, B4⟩
  rw [W_bind]
  iapply (wp_localPhase c (x c) b s l)
  isplitl [HX]; · iexact HX
  isplitl [HB]; · iexact HB
  isplitl [HS]; · iexact HS
  isplitl [HL]; · iexact HL
  iintro HX HB HS HL
  ihave HL := (Entails.of_eq (show pL c (lst0 (x c)) = pL c (lst x (0 : Fin 5).val c) from rfl)) $$ HL
  rw [W_bind]
  iapply (wp_round x K c 0 [1, 2, 3, 4] (by decide))
  isplitr; · iexact HR
  isplitr; · iexact Hlev
  isplitl [HO]; · iexact HO
  isplitl [L0]; · iexact L0
  isplitl [B0]; · iexact B0
  isplitl [HL]; · iexact HL
  isplitl [HC]; · iexact HC
  iintro HO HL HC M0 S0 R0
  rw [W_bind]
  iapply (wp_round x K c 1 [2, 3, 4] (by decide))
  isplitr; · iexact HR
  isplitr; · iexact Hlev
  isplitl [HO]; · iexact HO
  isplitl [L1]; · iexact L1
  isplitl [B1]; · iexact B1
  isplitl [HL]; · iexact HL
  isplitl [HC]; · iexact HC
  iintro HO HL HC M1 S1 R1
  rw [W_bind]
  iapply (wp_round x K c 2 [3, 4] (by decide))
  isplitr; · iexact HR
  isplitr; · iexact Hlev
  isplitl [HO]; · iexact HO
  isplitl [L2]; · iexact L2
  isplitl [B2]; · iexact B2
  isplitl [HL]; · iexact HL
  isplitl [HC]; · iexact HC
  iintro HO HL HC M2 S2 R2
  rw [W_bind]
  iapply (wp_round x K c 3 [4] (by decide))
  isplitr; · iexact HR
  isplitr; · iexact Hlev
  isplitl [HO]; · iexact HO
  isplitl [L3]; · iexact L3
  isplitl [B3]; · iexact B3
  isplitl [HL]; · iexact HL
  isplitl [HC]; · iexact HC
  iintro HO HL HC M3 S3 R3
  rw [W_bind]
  iapply (wp_round x K c 4 [] (by decide))
  isplitr; · iexact HR
  isplitr; · iexact Hlev
  isplitl [HO]; · iexact HO
  isplitl [L4]; · iexact L4
  isplitl [B4]; · iexact B4
  isplitl [HL]; · iexact HL
  isplitl [HC]; · iexact HC
  iintro HO HL HC M4 S4 R4
  iapply (wp_finish c (lst x 5 c) o)
  isplitl [HL]; · iexact HL
  isplitl [Hout]; · iexact Hout
  iintro HL Hout
  ihave Hout := (Entails.of_eq (show pO c (transpose S512x16 [1, 0] (lst x 5 c) transposes_S16x512_p1_0_S512x16) = pO c (outOf x c) from rfl)) $$ Hout
  ihave HO := (Entails.of_eq (show (iprop(∃ V', owes (c : Thread nD τ) (owedX c []) V') : sProp 𝕄) = iprop(∃ V', owes (c : Thread nD τ) 0 V') from rfl)) $$ HO
  iapply Hk $$ HO HX Hout [HB HS HL HC M0 M1 M2 M3 M4] [HzB S0 S1 S2 S3 S4 R0 R1 R2 R3 R4]
  · isplitl [HB]; · iexact HB
    isplitl [HS]; · iexact HS
    isplitl [HL]; · iexists _; iexact HL
    isplitl [HC]; · iexact HC
    iexists (landed x c)
    rw [pages_eq, five]
    isplitl [M0]; · iexact M0
    isplitl [M1]; · iexact M1
    isplitl [M2]; · iexact M2
    isplitl [M3] <;> iassumption
  · rw [five, five]
    isplitl [HzB]; · iexact HzB
    isplitl [S0 S1 S2 S3 S4]
    · isplitl [S0]; · iexact S0
      isplitl [S1]; · iexact S1
      isplitl [S2]; · iexact S2
      isplitl [S3] <;> iassumption
    · isplitl [R0]; · iexact R0
      isplitl [R1]; · iexact R1
      isplitl [R2]; · iexact R2
      isplitl [R3] <;> iassumption

end Whole

/-! ## The pipeline's proof data -/

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-- The block device `c`'s body finds staged. -/
def xs (c : Dev nD) : FVec F S512x4096 .f32 :=
  (win0_0.blk (0 : Fin 1)).view.read (Elt F) ((s₀ m ρ).mem ((c : Thread nD τ).loc main_arg0))

/-- What device `c` starts from, before its scratch buffers. -/
def start (c : Dev nD) : sProp 𝕄 := iprop((∃ K, records (xs m ρ) K) ∗ part (F := F) c ∗ levAts L lv)

def Φ₀ (c : Dev nD) : sProp 𝕄 := iprop(start m ρ c ∗ scratch (F := F) c)
def Φ₁ (c : Dev nD) : sProp 𝕄 := iprop(scratch (F := F) c ∗ closed (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => outOf (xs m ρ) c
  Φ t := match t with
    | ⟨0, _⟩ => Φ₀ m ρ c
    | ⟨_ + 1, _⟩ => Φ₁ c
  q _ := fullShare
  owed t := match t with
    | ⟨0, _⟩ => owedB c all5
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)
theorem fetch_0 (t : Fin cfg0.N) : (cfg0.win (0 : Fin 2)).fetch t = true := by rw [fin_N t]; rfl

/-- A whole buffer at contents equal to `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xs m ρ c) ∗ stg c cc0_stg1_0 (outOf (xs m ρ) c))

theorem sound_body (c : Dev nD) : bodyPre m ρ c ⊢ W c wholeBody fun _ => bodyPost m ρ c := by
  unfold bodyPre bodyPost Φ₀ Φ₁ start Dat.owesAt Pipeline.owesWithin
  rw [show (dats m ρ 0 c).owed t₀.castSucc = owedB c all5 from rfl, show (dats m ρ 0 c).owed t₀.succ = 0 from rfl]
  iintro ⟨⟨⟨⟨%K, #HR⟩, Hpart, #Hlev⟩, Hscr⟩, ⟨%V, %hV, HO⟩, ⟨%d0, %g0, %hg0, Hx⟩, ⟨%d1, %g1, %hg1, Hout⟩⟩
  have hx : g0 = xs m ρ c := by rw [hg0]; unfold Dat.before; rw [if_pos (fetch_0 t₀)]; rfl
  subst hx
  iapply (wp_body (xs m ρ) K c V g1)
  isplitr; · iexact HR
  isplitr; · iexact Hlev
  isplitl [Hpart]; · iexact Hpart
  isplitl [HO]; · iexact HO
  isplitl [Hx]; · iexact Hx
  isplitl [Hout]; · iexact Hout
  isplitl [Hscr]; · iexact Hscr
  iintro ⟨%V', HO⟩ Hx Hout Hscr Hcl
  isplitl [Hscr Hcl]
  · isplitl [Hscr] <;> iassumption
  isplitl [HO]
  · iexists V'
    isplitr; · ipureintro; exact fun _ _ => Or.inl trivial
    iexact HO
  isplitl [Hx]
  · iexists _; isplitr; · (ipureintro; rfl)
    iexact Hx
  iexists _; isplitr; · (ipureintro; rfl)
  iexact Hout

/-- The library's obligation on the body, at its one point. -/
theorem body_obligation (c : Dev nD) : BodyObligation (dats (F := F) m ρ 0 c) (defs₀ (F := F)) 𝒱₀ () Set.univ := fun t => by
  rw [fin_N t, bigSep_W0, bigSep_W0]
  simp only [owns_stg]
  show bodyPre m ρ c ⊢ wp frame (wpE (defs₀ (F := F)) 𝒱₀ c none) Set.univ
    (cc0_body (F := F) xM (Memref.isWhole_whole _) oM (Memref.isWhole_whole _) bM (Memref.isWhole_whole _) sM (Memref.isWhole_whole _)
      lM (Memref.isWhole_whole _) cM (Memref.isWhole_whole _) mM (Memref.isWhole_whole _) cc0_scratch5 cc0_scratch6) (fun _ => bodyPost m ρ c)
  rw [body_eq]
  exact sound_body m ρ c

end Cert.TopK

end
-- ==== Proof.Launch.lean ====
/-
# 01_k — the launch

From a memory with every counter at zero, for any float values: every fair execution ends, with every device's result
array at `outOf` of the blocks, the arguments as they were and every counter at zero again.
-/
module

public import proofs.«01_k».proof.Proof.Body
public import Idealize.ShloMosaic.Lib.Pipeline.CollectiveSegs

@[expose] public section

set_option maxRecDepth 16384

noncomputable section

namespace Cert.TopK

open Cert.KernelIdeal Cert.KernelIdeal.Gen
open Idealize.ShloMosaic Idealize.ShloMosaic.ValueKit Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
/-- A family over a sum of two types, side by side. -/
theorem sides {α β : Type} [Fintype α] [Fintype β] (Φ : α ⊕ β → sProp 𝕄) :
    bigSep Finset.univ Φ = iprop((bigSep Finset.univ fun a => Φ (.inl a)) ∗ bigSep Finset.univ fun b => Φ (.inr b)) := bigSep_univ_sum Φ

/-! ## The cells and tokens at launch -/

theorem ownSemFacts : Pipeline.OwnSemFacts cfg0.spec osem := by decide

theorem csem_injective : Function.Injective csem := by
  have h : ∀ k k' : Cl, csem k = csem k' → k = k' := by decide
  exact fun k k' => h k k'

theorem cellAt_injective : Function.Injective cellAt := fun a b h =>
  Prod.ext (congrArg (fun g : GSem nD τ sig => g.1.1) h) (csem_injective (congrArg Prod.snd h))

def exCells : Finset (GSem nD τ sig) := Finset.univ.map ⟨cellAt, cellAt_injective⟩

/-- The duties: five at a barrier, one at every other cell. -/
abbrev Tk : Type := Fin 5 ⊕ (Fin 5 ⊕ Fin 5)
abbrev tokKey : Tk → SemLoc sig × Fin 5 := fun | .inl r => (.reg barS, r) | .inr k => (osem k, 0)
abbrev tokAt (cj : Dev nD × Tk) : GSem nD τ sig × ℕ × Fin 5 := (((cj.1 : Thread nD τ), (tokKey cj.2).1), 0, (tokKey cj.2).2)

theorem tokAt_injective : Function.Injective tokAt := fun a b h => by
  have h1 : ∀ k k' : Tk, tokKey k = tokKey k' → k = k' := by decide
  exact Prod.ext (congrArg (fun g : GSem nD τ sig × ℕ × Fin 5 => g.1.1.1) h)
    (h1 _ _ (congrArg (fun g : GSem nD τ sig × ℕ × Fin 5 => (g.1.2, g.2.2)) h))

def exToks : Finset (GSem nD τ sig × ℕ × Fin 5) := Finset.univ.map ⟨tokAt, tokAt_injective⟩

def u₀ : UU := (initOf (Pipeline.cells cfgs cellOf_inj) (Pipeline.launchToks cfgs cellOf_inj), initOf exCells exToks)

variable (m : (ℓ : Loc nD τ sig) → Buf (Elt F) ℓ) (ρ : Dev nD → PrngReg)

/-- The tokens of device `c`'s own cells; -/
def toks (c : Dev nD) : sProp 𝕄 :=
  iprop((bigSep Finset.univ fun r : Fin 5 => dutyTok (ER (F := F)) (barCell c) 0 r)
    ∗ (bigSep Finset.univ fun r : Fin 5 => dutyTok (ER (F := F)) (sendCell r c) 0 0)
    ∗ bigSep Finset.univ fun r : Fin 5 => dutyTok (ER (F := F)) (recvCell r c) 0 0)

/-- and those it pays with. -/
def payToks (c : Dev nD) : sProp 𝕄 :=
  iprop((bigSep Finset.univ fun r : Fin 5 => dutyTok (ER (F := F)) (barCell (flip r.val c)) 0 r)
    ∗ (bigSep Finset.univ fun r : Fin 5 => dutyTok (ER (F := F)) (sendCell r c) 0 0)
    ∗ bigSep Finset.univ fun r : Fin 5 => dutyTok (ER (F := F)) (recvCell r (flip r.val c)) 0 0)

/-- Its places at its own cells. -/
def places (c : Dev nD) : sProp 𝕄 := bigSep Finset.univ fun k : Cl => atPos (ER (F := F)) (cellAt (c, k)) 0 ∅ 0

/-- What the launch deals device `c`, -/
def G (c : Dev nD) : sProp 𝕄 :=
  iprop((bigSep Finset.univ fun k : Cl => roundState ER (sched (xs m ρ)) (cellAt (c, k)) 0)
    ∗ (bigSep Finset.univ fun k : Cl => iprop(atPos (ER (F := F)) (cellAt (c, k)) 0 ∅ 0 ∗ reached (ER (F := F)) (cellAt (c, k)) 0)) ∗ toks (F := F) c)

/-- and what the devices make of it together. -/
def G' (c : Dev nD) : sProp 𝕄 := iprop((∃ K, records (xs m ρ) K) ∗ places (F := F) c ∗ payToks (F := F) c)

theorem fund_cells : BI.own (ER (F := F) (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : Cl => Φ (cellAt (c, k)) := by
    unfold exCells; rw [bigSep_map, bigSep_univ_prod]; rfl
  have hT : bigSep exToks (fun t => (dutyTok (ER (F := F)) t.1 t.2.1 t.2.2 : sProp 𝕄)) = bigSep Finset.univ fun c : Dev nD => toks (F := F) c := by
    unfold exToks; rw [bigSep_map, bigSep_univ_prod]
    exact bigSep_congr fun c _ => by unfold toks; rw [sides, sides]; rfl
  iintro HX
  imod (Rounds.fund ER (sched (xs m ρ)) exCells exToks) $$ HX with ⟨Hst, Hr, Hat, Htok⟩
  imodintro
  ihave Hst := (Entails.of_eq (hX fun g => roundState ER (sched (xs m ρ)) g 0)) $$ Hst
  ihave Hat := (Entails.of_eq (hX fun g => atPos (ER (F := F)) g 0 ∅ 0)) $$ Hat
  ihave Hr := (Entails.of_eq (hX fun g => reached (ER (F := F)) g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
theorem unscoped_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem owned_eq (c : Dev nD) : (Pipeline.ownSems0 (Ix := Unit) (Name := ℕ) (U := UU) (Lvl := ℕ) (Val := Elt F) (τ := τ) osem c : sProp 𝕄)
    = iprop((bigSep Finset.univ fun r : Fin 5 => semVal (sendCell r c) 0) ∗ bigSep Finset.univ fun r : Fin 5 => semVal (recvCell r c) 0) := by
  unfold Pipeline.ownSems0; exact sides _

omit [FloatOps F] in
/-- One thing over one point. -/
theorem one (Φ : Unit → sProp 𝕄) : bigSep Finset.univ Φ = Φ () := by
  rw [bigSep_univ_eq_bigSepL [()] (by decide) (by decide), bigSepL_singleton]

omit [FloatOps F] in
theorem counters (c : Dev nD) :
    iprop(Pipeline.ownSems0 (Ix := Unit) (Name := ℕ) (U := UU) (Lvl := ℕ) (Val := Elt F) (τ := τ) osem c ∗ unscopedSems0 c)
      ⊢ (bigSep Finset.univ fun k : Cl => semVal (cellAt (c, k)) 0 : sProp 𝕄) := by
  rw [unscoped_eq, sides, one]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Cl => iprop(∃ κ : ℕ, cellInv ER (sched (xs m ρ)) κ (cellAt (c, k))))
          ∗ (bigSep Finset.univ fun k : Cl => iprop(atPos (ER (F := F)) (cellAt (c, k)) 0 ∅ 0 ∗ reached (ER (F := F)) (cellAt (c, k)) 0)) ∗ toks (F := F) c) := by
  unfold G
  iintro ⟨Hos, Hus, Hst, Hat, Htok⟩
  ihave Hv := (counters (F := F) c) $$ [Hos Hus]
  · isplitl [Hos] <;> iassumption
  imod (show iprop((bigSep Finset.univ fun k : Cl => semVal (cellAt (c, k)) 0) ∗ bigSep Finset.univ fun k : Cl => roundState ER (sched (xs m ρ)) (cellAt (c, k)) 0)
      ⊢ (|={Set.univ}=> bigSep Finset.univ fun k : Cl => iprop(∃ κ : ℕ, cellInv ER (sched (xs m ρ)) κ (cellAt (c, k))) : sProp 𝕄) from by
        rw [← bigSep_sep']
        exact (bigSep_mono fun k _ => (Rounds.body_intro ER (sched (xs m ρ)) (cellAt (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A device and a round, to the partner and the same round. -/
def around : Dev nD × Fin 5 ≃ Dev nD × Fin 5 :=
  ⟨fun p => (flip p.2.val p.1, p.2), fun p => (flip p.2.val p.1, p.2),
    fun p => Prod.ext (flip_flip p.2 p.1) rfl, fun p => Prod.ext (flip_flip p.2 p.1) rfl⟩

omit [FloatOps F] in
/-- A family over devices and rounds, dealt to the partners. -/
theorem dealt (Φ : Dev nD → Fin 5 → sProp 𝕄) :
    (bigSep Finset.univ fun c : Dev nD => bigSep Finset.univ fun r : Fin 5 => Φ c r)
      = bigSep Finset.univ fun c : Dev nD => bigSep Finset.univ fun r : Fin 5 => Φ (flip r.val c) r := by
  rw [← bigSep_univ_prod (fun p : Dev nD × Fin 5 => Φ p.1 p.2), bigSep_univ_equiv around, bigSep_univ_prod]; rfl

omit [FloatOps F] in
theorem toks_dealt : (bigSep Finset.univ fun c : Dev nD => (toks c : sProp 𝕄)) = bigSep Finset.univ fun c : Dev nD => payToks c := by
  unfold toks payToks
  rw [bigSep_sep', bigSep_sep', bigSep_sep', bigSep_sep', dealt (fun c r => dutyTok (ER (F := F)) (barCell c) 0 r),
    dealt (fun c r => dutyTok (ER (F := F)) (recvCell r c) 0 0)]

theorem regroup :
    (bigSep Finset.univ fun c : Dev nD => iprop((bigSep Finset.univ fun k : Cl => iprop(∃ κ : ℕ, cellInv ER (sched (xs m ρ)) κ (cellAt (c, k))))
          ∗ (bigSep Finset.univ fun k : Cl => iprop(atPos (ER (F := F)) (cellAt (c, k)) 0 ∅ 0 ∗ reached (ER (F := F)) (cellAt (c, k)) 0)) ∗ toks (F := F) c) : sProp 𝕄)
      ⊢ bigSep Finset.univ (G' m ρ) := by
  rw [bigSep_sep', bigSep_sep', ← bigSep_univ_prod (fun ck : Dev nD × Cl => iprop(∃ κ : ℕ, cellInv ER (sched (xs m ρ)) κ (cellAt ck))),
    bigSep_congr (s := Finset.univ) (fun (c : Dev nD) _ => bigSep_sep' Finset.univ (fun k : Cl => (atPos (ER (F := F)) (cellAt (c, k)) 0 ∅ 0 : sProp 𝕄)) (fun k => reached (ER (F := F)) (cellAt (c, k)) 0)),
    bigSep_sep', ← bigSep_univ_prod (fun ck : Dev nD × Cl => (reached (ER (F := F)) (cellAt ck) 0 : sProp 𝕄)), toks_dealt]
  iintro ⟨HI, ⟨Hat, #HR⟩, Htok⟩
  ihave HK := (BI.bigSep_exists_pi Finset.univ (fun (ck : Dev nD × Cl) (κ : ℕ) => (cellInv ER (sched (xs m ρ)) κ (cellAt ck) : sProp 𝕄))) $$ HI
  icases HK with ⟨%K, #HI⟩
  unfold G'
  rw [bigSep_sep', bigSep_sep']
  isplitr
  · iapply (BI.bigSep_of_persistent Finset.univ (iprop(∃ K, records (xs m ρ) K) : sProp 𝕄))
    iexists K
    unfold records
    isplitr; · iexact HI
    iexact HR
  isplitl [Hat]; · unfold places; iexact Hat
  iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

abbrev O₀ (c : Dev nD) : CellTallies nD τ sig Unit := owedB c all5

theorem bar_eq {a b : Dev nD} (h : barCell a = barCell b) : a = b := congrArg (fun g : GSem nD τ sig => g.1.1) h
theorem recv_eq {r i : Fin 5} {a b : Dev nD} (h : recvCell r a = recvCell i b) : r = i ∧ a = b := by
  have h1 := congrArg (fun g : GSem nD τ sig => roleOf g.2) h
  simp only [role_rcv] at h1
  exact ⟨Role.rcv.inj h1, congrArg (fun g : GSem nD τ sig => g.1.1) h⟩
theorem recv_ne_bar (r : Fin 5) (a b : Dev nD) : recvCell r a ≠ barCell b := fun h => by
  have := congrArg Prod.snd h; cases this

theorem at_bar (r : Fin 5) (d c : Dev nD) (n : ℕ) : (tallyAt (barCell (flip r.val d)) () n : CellTallies nD τ sig Unit) (barCell c) () = if d = flip r.val c then n else 0 := by
  rw [tallyAt_apply]
  by_cases h : d = flip r.val c
  · subst h; rw [flip_flip, if_pos ⟨rfl, rfl⟩, if_pos rfl]
  · rw [if_neg (fun ⟨h1, _⟩ => h (by rw [bar_eq h1, flip_flip])), if_neg h]

theorem owed_bar (d c : Dev nD) (rs : List (Fin 5)) : owedB d rs (barCell c) () = (rs.map fun r => if d = flip r.val c then 1 else 0).sum := by
  induction rs with
  | nil =>
    refine Nat.eq_zero_of_not_pos fun h => ?_
    obtain ⟨r, _, e⟩ := owedX_pos h
    exact recv_ne_bar _ _ _ e.symm
  | cons r rs ih =>
    rw [owedB, Pi.add_apply, Finsupp.add_apply, ih, at_bar, List.map_cons, List.sum_cons, Nat.add_comm]

theorem owed_recvX (d c : Dev nD) (r : Fin 5) (rs : List (Fin 5)) (hn : rs.Nodup) : owedX d rs (recvCell r c) () = if r ∈ rs ∧ d = flip r.val c then N else 0 := by
  induction rs with
  | nil => rw [if_neg (fun h => absurd h.1 List.not_mem_nil)]; rfl
  | cons i rs ih =>
    rw [owedX, Pi.add_apply, Finsupp.add_apply, ih (List.nodup_cons.mp hn).2, tallyAt_apply]
    by_cases hi : r = i
    · subst hi
      rw [if_neg (fun h => (List.nodup_cons.mp hn).1 h.1), Nat.zero_add]
      by_cases h : d = flip r.val c
      · subst h; rw [flip_flip, if_pos ⟨rfl, rfl⟩, if_pos ⟨List.mem_cons_self, rfl⟩]
      · rw [if_neg (fun ⟨h1, _⟩ => h (by rw [(recv_eq h1).2, flip_flip])), if_neg (fun h' => h h'.2)]
    · rw [if_neg (c := recvCell r c = _ ∧ _) (fun h => hi (recv_eq h.1).1), Nat.add_zero]
      refine if_congr ?_ rfl rfl
      rw [List.mem_cons, or_iff_right hi]

theorem owed_recv (d c : Dev nD) (r : Fin 5) (rs : List (Fin 5)) : owedB d rs (recvCell r c) () = if d = flip r.val c then N else 0 := by
  induction rs with
  | nil =>
    rw [owedB, owed_recvX d c r all5 (by decide)]
    refine if_congr (and_iff_right ?_) rfl rfl
    revert r; decide
  | cons i rs ih =>
    rw [owedB, Pi.add_apply, Finsupp.add_apply, ih, tallyAt_ne_cell (fun h => recv_ne_bar r c _ h), Finsupp.zero_apply, Nat.add_zero]

theorem credit_bar (c : Dev nD) :
    tallyOn (barCell c) (launchCredit (Pipeline.owing O₀) 0 (barCell c)) = (tallyAt (barCell c) () 5 : CellTallies nD τ sig Unit) := by
  unfold tallyAt; refine congrArg _ (Finsupp.ext fun u => ?_); cases u
  rw [Pipeline.launchCredit_owing, Finsupp.single_eq_same, Finset.sum_congr rfl fun d _ => owed_bar d c all5]
  simp only [all5, List.map_cons, List.map_nil, List.sum_cons, List.sum_nil, Finset.sum_add_distrib, Finset.sum_ite_eq', Finset.mem_univ, if_true,
    Finset.sum_const_zero]
  rfl

theorem credit_recv (r : Fin 5) (c : Dev nD) :
    tallyOn (recvCell r c) (launchCredit (Pipeline.owing O₀) 0 (recvCell r c)) = (tallyAt (recvCell r c) () N : CellTallies nD τ sig Unit) := by
  unfold tallyAt; refine congrArg _ (Finsupp.ext fun u => ?_); cases u
  rw [Pipeline.launchCredit_owing, Finsupp.single_eq_same, Finset.sum_congr rfl fun d _ => owed_recv d c r all5,
    Finset.sum_ite_eq' Finset.univ (flip r.val c) fun _ => N, if_pos (Finset.mem_univ _)]

/-- The semaphores that a device waits at for others. -/
abbrev wsem : Unit ⊕ Fin 5 → SemLoc sig := fun | .inl _ => .reg barS | .inr r => .dma (recvS r).sem
theorem wsem_injective : Function.Injective wsem := by
  have h : ∀ k k' : Unit ⊕ Fin 5, wsem k = wsem k' → k = k' := by decide
  exact fun k k' => h k k'

omit [FloatOps F] in
theorem creds (c : Dev nD) :
    (Pipeline.launchCred O₀ c : sProp 𝕄) ⊢ iprop(cred (tallyAt (barCell c) () 5) ∗ bigSep Finset.univ fun r : Fin 5 => cred (tallyAt (recvCell r c) () N)) := by
  have h : bigSep (Finset.univ.map ⟨wsem, wsem_injective⟩) (fun sm => (cred (tallyOn ((c : Thread nD τ), sm) (launchCredit (Pipeline.owing O₀) 0 ((c : Thread nD τ), sm))) : sProp 𝕄))
      = iprop(cred (tallyAt (barCell c) () 5) ∗ bigSep Finset.univ fun r : Fin 5 => cred (tallyAt (recvCell r c) () N)) := by
    rw [bigSep_map, sides, one, ← credit_bar]
    exact congrArg (fun P : sProp 𝕄 => iprop(cred (tallyOn (barCell c) (launchCredit (Pipeline.owing O₀) 0 (barCell c))) ∗ P))
      (bigSep_congr fun r _ => by rw [← credit_recv]; rfl)
  rw [← h]
  unfold Pipeline.launchCred
  exact bigSep_subset (Finset.subset_univ _)

/-! ## The side conditions -/

omit [FloatOps F] in
/-- Places, tokens and credits make a device's part. -/
theorem part_intro (c : Dev nD) :
    iprop(places (F := F) c ∗ payToks (F := F) c ∗ cred (tallyAt (barCell c) () 5) ∗ bigSep Finset.univ fun r : Fin 5 => cred (tallyAt (recvCell r c) () N))
      ⊢ part (F := F) c := by
  unfold places payToks part lin
  rw [sides, sides, one]
  simp only [bigSep_sep']
  iintro ⟨⟨HB, HS, HV⟩, ⟨TB, TS, TV⟩, CB, CV⟩
  isplitl [HB]; · iexact HB
  isplitl [CB]; · iexact CB
  isplitl [TB]; · iexact TB
  isplitl [HS]; · iexact HS
  isplitl [HV]; · iexact HV
  isplitl [TS]; · iexact TS
  isplitl [TV]; · iexact TV
  iexact CV

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨HB, HV⟩
  imodintro
  unfold start G'
  icases HG with ⟨HR, Hpl, Htk⟩
  isplitl
  · isplitl [HR]; · iexact HR
    isplitr [Hlev]
    · iapply (part_intro (F := F) c)
      isplitl [Hpl]; · iexact Hpl
      isplitl [Htk]; · iexact Htk
      isplitl [HB] <;> iassumption
    iexact Hlev
  · iempintro

omit [FloatOps F] in
theorem scratch_eq (c : Dev nD) : (Pipeline.scopedRest cfg0.spec c : sProp 𝕄) = scratch (F := F) c := scopedRest0_eq c

theorem phi_in (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_eq]
  unfold Φ₀
  iintro ⟨Hs, -, Hr⟩
  isplitl [Hs] <;> iassumption

theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq, owned_eq, unscoped_eq]
  unfold Φ₁ closed
  iintro ⟨Hr, HB, HS, HV⟩
  isplitl [HB]; · iexact HB
  isplitl [HS HV]
  · isplitl [HS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (by fin_cases w <;> fin_cases s <;> decide) all5
    · exact mayWait_none c _

theorem share_eq (c : Dev nD) (w : Fin cfg0.W) : (dats m ρ 0 c).share w = fullShare := by unfold Dat.share; split <;> rfl

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- On thirty-two devices, for any float values, from any memory with zero counters: every fair execution of the
    program ends; each device's arrays end at the contents computed here and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array ends as it was. -/
theorem finalA_x (c : Dev nD) : finalA m ρ c (0 : Fin 2) = m ((c : Thread nD τ).loc main_arg0) :=
  (dats (F := F) m ρ 0 c).arrAt_in (0 : Fin 2) rfl _

end Cert.TopK

end
-- ==== Proof.Frames.lean ====
/-
# 01_k — the programs run and leave their arguments alone

The frames of the three programs: the kernel at its two float readings by the launch, the reference because it
declares no semaphore.
-/
module

public import proofs.«01_k».proof.Proof.Launch
public import proofs.«01_k».proof.Proof.Gen.Kernel
public import proofs.«01_k».proof.Proof.Gen.ReferenceIdeal.Run
public import proofs.«01_k».proof.Defs

@[expose] public section

set_option maxRecDepth 16384

noncomputable section

namespace Cert.TopK

open Idealize.ShloMosaic Idealize.ShloMosaic.TcCoe Idealize.SL.Sem

section Same
attribute [local instance] Cert.Kernel.Gen.facts Cert.KernelIdeal.Gen.facts

/-- The two readings print the same kernel function. -/
theorem body_same (F : FTy → Type) [FloatOps F] : @Cert.Kernel.cc0_body F _ _ = @Cert.KernelIdeal.cc0_body F _ _ := rfl

/-- So their tables of kernel functions are the same, -/
theorem defs₀_same (F : FTy → Type) [FloatOps F] : Cert.Kernel.defs₀ (F := F) = Cert.KernelIdeal.defs₀ (F := F) := by
  unfold Cert.Kernel.defs₀ Cert.KernelIdeal.defs₀
  congr 1
  funext l x
  split <;> rfl

/-- their tables of everything called are, -/
theorem defs_same (F : FTy → Type) [FloatOps F] : Cert.Kernel.defs (F := F) = Cert.KernelIdeal.defs (F := F) := by
  unfold Cert.Kernel.defs Cert.KernelIdeal.defs
  rw [defs₀_same]; rfl

/-- and what each device runs is. -/
theorem main_same (F : FTy → Type) [FloatOps F] : Cert.Kernel.main (F := F) = Cert.KernelIdeal.main (F := F) := rfl

/-- The kernel on machine words: every fair execution ends, the blocks unchanged, every counter at zero. -/
theorem frame_kernel : Cert.quiescent_Kernel := by
  intro m ρ _
  rw [defs_same, main_same]
  exact (θ_run (Cert.KernelIdeal.defs (F := Bits)) (onTc (Cert.KernelIdeal.main (F := Bits))) (s₀ m ρ)).mono
    (fun _ h => ⟨fun c => (h.1 c (0 : Fin 2)).trans (finalA_x (F := Bits) m ρ c), h.2⟩) (run_main (F := Bits) m ρ)

end Same

/-- The kernel on extended reals likewise. -/
theorem frame_kernelIdeal : Cert.quiescent_KernelIdeal (hKernelIdeal := Cert.KernelIdeal.Gen.facts) := fun m ρ _ =>
  (θ_run Cert.KernelIdeal.defs _ _).mono (fun _ h => ⟨fun c => (h.1 c (0 : Fin 2)).trans (finalA_x (F := Ideal) m ρ c), h.2⟩)
    (run_main (F := Ideal) m ρ)

/-- The reference likewise: it is host operations only. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.TopK

end
-- ==== Proof.Outcome.lean ====
/-
# 01_k — the result array

The one grid step writes the whole result array, so after the run it holds the list the body left in its buffer.
-/
module

public import proofs.«01_k».proof.Proof.Launch
public import proofs.«01_k».proof.Proof.Gen.KernelIdeal.Points

@[expose] public section

set_option maxRecDepth 16384

noncomputable section

namespace Cert.TopK

open Cert.KernelIdeal Cert.KernelIdeal.Gen
open Idealize.ShloMosaic Idealize.ShloMosaic.ValueKit Idealize.ShloMosaic.ValueIdx
open Idealize.ShloMosaic.TcCoe
open Idealize.ShloMosaic.Pipeline (Dat Cfg Window BodyObligation cellOf)

variable {F : FTy → Type} [FloatOps F]
variable (m : (ℓ : Loc nD τ sig) → Buf (Elt F) ℓ) (ρ : Dev nD → PrngReg)

/-- Both windows' one block starts at the origin. -/
theorem origin0 : ∀ a : Fin 2, win0_0.index t0_0 a * win0_0.size a = 0 := by decide +kernel
theorem origin1 : ∀ a : Fin 2, win0_1.index t0_0 a * win0_1.size a = 0 := by decide +kernel

/-- The argument's window is the whole argument. -/
theorem xs_eq (c : Dev nD) : xs m ρ c = m ((c : Thread nD τ).loc main_arg0) := by
  unfold xs s₀
  refine funext fun i => congrArg (m ((c : Thread nD τ).loc main_arg0)) (funext fun a => Fin.ext ?_)
  refine (rect_emb_unit_val (fun a => win0_0.index t0_0 a * win0_0.size a) _ _ i a).trans ?_
  rw [origin0 a, Nat.zero_add]

/-- The result's window is the whole result, so what is flushed is the block of the list. -/
theorem flushed_out (c : Dev nD) (t : Fin cfg0.N) :
    (dats m ρ 0 c).flushed 1 t = ((cfg0.win 1).blk t).view.read (Elt F) (outOf (xs m ρ) c) := by
  obtain rfl := fin_N0 t
  unfold Pipeline.Dat.flushed
  refine funext fun i => congrArg (outOf (xs m ρ) c) (funext fun a => Fin.ext ?_)
  refine Eq.symm ((rect_emb_unit_val (fun a => win0_1.index t0_0 a * win0_1.size a) _ _ i a).trans ?_)
  rw [origin1 a, Nat.zero_add]

theorem extent1 : ∀ a : Fin 2, win0_1.xsize (grid0.coords t0_0) a = S512x16.size a := by decide +kernel

theorem covered (i : S512x16.Idx) : ∃ t : Fin cfg0.N, (cfg0.win 1).flush t = true ∧ i ∈ ((cfg0.win 1).blk t).view.set := by
  refine ⟨t0_0, flush0_1 _, ?_⟩
  show i ∈ ((View.whole main_v1).slice (win0_1.rect t0_0)).set
  rw [View.set_slice_whole, Rect.mem_set_unit]
  intro a
  have h := (i a).isLt
  have e : win0_1.index t0_0 a * win0_1.size a = 0 := origin1 a
  have z : win0_1.xsize (grid0.coords t0_0) a = S512x16.size a := extent1 a
  refine ⟨?_, ?_⟩
  · show win0_1.index t0_0 a * win0_1.size a ≤ (i a).val
    omega
  · show (i a).val < win0_1.index t0_0 a * win0_1.size a + win0_1.xsize (grid0.coords t0_0) a
    rw [e, z, Nat.zero_add]
    exact h

/-- The result array after the run. -/
theorem finalA_out (c : Dev nD) : finalA m ρ c (1 : Fin 2) = outOf (xs m ρ) c :=
  (dats m ρ 0 c).arrAt_eq_of_cover 1 (outOf (xs m ρ) c) (fun t _ => flushed_out m ρ c t) covered

end Cert.TopK

end
-- ==== Proof.Distinct.lean ====
/-
# 01_k — the largest distinct entries of a finite set

`top A k` is the `k`-th largest element of `A`, counted without repetition from zero and the least value once `A` is used
up. The facts the kernel rests on: the `k` largest of two sets are the `k` largest of what is left of each when only its
own `k` largest are kept; and a descending enumeration gives them as far as it descends strictly.
-/
module

public import Mathlib.Data.Finset.Lattice.Fold
public import Mathlib.Order.Interval.Finset.Nat

@[expose] public section

namespace Cert.TopK

variable {α : Type} [LinearOrder α] [OrderBot α]

/-- The `k`-th largest element: the largest, then each the largest below the one before. -/
def top (A : Finset α) : ℕ → α
  | 0 => A.sup id
  | k + 1 => (A.filter (· < top A k)).sup id

/-- Nothing of `A` below `top A k` lies above `top A (k + 1)`. -/
theorem le_top_succ {A : Finset α} {a : α} {k : ℕ} (ha : a ∈ A) (h : a < top A k) : a ≤ top A (k + 1) :=
  Finset.le_sup (f := id) (Finset.mem_filter.mpr ⟨ha, h⟩)

/-- A bound on what lies below `top A k` bounds `top A (k + 1)`. -/
theorem top_succ_le {A : Finset α} {b : α} {k : ℕ} (h : ∀ a ∈ A, a < top A k → a ≤ b) : top A (k + 1) ≤ b :=
  Finset.sup_le fun a ha => h a (Finset.mem_filter.mp ha).1 (Finset.mem_filter.mp ha).2

/-- The chain descends strictly until it reaches the least value. -/
theorem top_succ_lt {A : Finset α} {k : ℕ} (h : ⊥ < top A k) : top A (k + 1) < top A k :=
  (Finset.sup_lt_iff h).mpr fun a ha => (Finset.mem_filter.mp ha).2

/-- A larger set has larger entries at every place. -/
theorem top_mono {A B : Finset α} (h : A ⊆ B) : ∀ k, top A k ≤ top B k
  | 0 => Finset.sup_mono h
  | k + 1 => top_succ_le fun a ha hl => le_top_succ (h ha) (lt_of_lt_of_le hl (top_mono h k))

/-- Each entry is an element or the least value. -/
theorem top_mem (A : Finset α) (k : ℕ) : top A k ∈ A ∨ top A k = ⊥ := by
  have hs : ∀ S : Finset α, S.sup id ∈ S ∨ S.sup id = ⊥ := fun S => by
    rcases S.eq_empty_or_nonempty with h | h
    · right; rw [h, Finset.sup_empty]
    · left
      obtain ⟨x, hx, he⟩ := Finset.exists_mem_eq_sup S h id
      rw [he]; exact hx
  cases k with
  | zero => exact hs A
  | succ k => exact (hs _).imp_left fun h => (Finset.mem_filter.mp h).1

/-- An element is among the first `k` entries or below all of them. -/
theorem among_or_below {A : Finset α} {a : α} (ha : a ∈ A) : ∀ k, (∃ i < k, top A i = a) ∨ ∀ i < k, a < top A i
  | 0 => Or.inr fun _ h => absurd h (Nat.not_lt_zero _)
  | k + 1 => by
    rcases among_or_below ha k with ⟨i, hi, e⟩ | h
    · exact Or.inl ⟨i, Nat.lt_succ_of_lt hi, e⟩
    · have hle : a ≤ top A k := by
        cases k with
        | zero => exact Finset.le_sup (f := id) ha
        | succ k => exact le_top_succ ha (h k (Nat.lt_succ_self k))
      rcases hle.eq_or_lt with e | l
      · exact Or.inl ⟨k, Nat.lt_succ_self k, e.symm⟩
      · refine Or.inr fun i hi => ?_
        rcases Nat.lt_succ_iff_lt_or_eq.mp hi with hi | rfl
        · exact h i hi
        · exact l

/-- Of a set `U`, entries below the `n`-th depend only on a part `T` that holds of each of two covering sets its own `n`
    largest entries. -/
theorem top_merge {A B T : Finset α} {n : ℕ} (hT : ∀ t, t ∈ T ↔ (∃ i < n, top A i = t) ∨ ∃ i < n, top B i = t) :
    ∀ k < n, top T k = top (A ∪ B) k := by
  have hTU : ∀ t ∈ T, t ∈ A ∪ B ∨ t = ⊥ := fun t ht => by
    rcases (hT t).mp ht with ⟨i, -, rfl⟩ | ⟨i, -, rfl⟩
    · exact (top_mem A i).imp_left fun h => Finset.mem_union_left _ h
    · exact (top_mem B i).imp_left fun h => Finset.mem_union_right _ h
  -- an element of either set that is not kept has the kept entry of every place above it
  have hout : ∀ u ∈ A ∪ B, u ∈ T ∨ ∃ C : Finset α, C ⊆ A ∪ B ∧ (∀ i < n, top C i ∈ T) ∧ ∀ i < n, u < top C i := fun u hu => by
    rcases Finset.mem_union.mp hu with h | h
    · rcases among_or_below h n with h' | h'
      · exact Or.inl ((hT u).mpr (Or.inl h'))
      · exact Or.inr ⟨A, Finset.subset_union_left, fun i hi => (hT _).mpr (Or.inl ⟨i, hi, rfl⟩), h'⟩
    · rcases among_or_below h n with h' | h'
      · exact Or.inl ((hT u).mpr (Or.inr h'))
      · exact Or.inr ⟨B, Finset.subset_union_right, fun i hi => (hT _).mpr (Or.inr ⟨i, hi, rfl⟩), h'⟩
  intro k
  induction k with
  | zero =>
    intro hn
    refine le_antisymm (Finset.sup_le fun t ht => ?_) (Finset.sup_le fun u hu => ?_)
    · rcases hTU t ht with h | h
      · exact Finset.le_sup (f := id) h
      · rw [h]; exact bot_le
    · rcases hout u hu with h | ⟨C, -, hC, hl⟩
      · exact Finset.le_sup (f := id) h
      · exact le_trans (hl 0 hn).le (Finset.le_sup (f := id) (hC 0 hn))
  | succ k ih =>
    intro hn
    have e := ih (Nat.lt_of_succ_lt hn)
    refine le_antisymm (top_succ_le fun t ht hl => ?_) (top_succ_le fun u hu hl => ?_)
    · rcases hTU t ht with h | h
      · exact le_top_succ h (e ▸ hl)
      · rw [h]; exact bot_le
    · rcases hout u hu with h | ⟨C, hCU, hC, hlt⟩
      · exact le_top_succ h (e ▸ hl)
      · refine le_trans (hlt (k + 1) hn).le (le_top_succ (hC (k + 1) hn) (e ▸ ?_))
        exact lt_of_le_of_lt (top_mono hCU (k + 1)) (top_succ_lt (lt_of_le_of_lt bot_le hl))

/-- A descending enumeration is never below the entries counted without repetition. -/
theorem top_le_of_antitone {m : ℕ} {A : Finset α} {s : Fin m → α} (hA : ∀ a ∈ A, ∃ i, s i = a) (hs : Antitone s) :
    ∀ (k : ℕ) (h : k < m), top A k ≤ s ⟨k, h⟩
  | 0, h => Finset.sup_le fun a ha => by
    obtain ⟨i, rfl⟩ := hA a ha
    exact hs (Fin.mk_le_mk.mpr (Nat.zero_le _))
  | k + 1, h => top_succ_le fun a ha hl => by
    obtain ⟨i, rfl⟩ := hA a ha
    refine hs (Fin.mk_le_mk.mpr (Nat.succ_le_of_lt ?_))
    by_contra hc
    exact absurd (lt_of_lt_of_le hl (top_le_of_antitone hA hs k (Nat.lt_of_succ_lt h)))
      (not_lt.mpr (hs (Fin.mk_le_mk.mpr (not_lt.mp hc))))

/-- As far as it descends strictly, it is those entries. -/
theorem top_eq_of_strict {m : ℕ} {A : Finset α} {s : Fin m → α} (hA : ∀ a ∈ A, ∃ i, s i = a) (hm : ∀ i, s i ∈ A) (hs : Antitone s) :
    ∀ (k : ℕ) (h : k < m), (∀ (i : ℕ) (hi : i < k), s ⟨i + 1, by omega⟩ < s ⟨i, by omega⟩) → top A k = s ⟨k, h⟩
  | 0, h, _ => le_antisymm (top_le_of_antitone hA hs 0 h) (Finset.le_sup (f := id) (hm _))
  | k + 1, h, hl => le_antisymm (top_le_of_antitone hA hs (k + 1) h) (le_top_succ (hm _) (by
      rw [top_eq_of_strict hA hm hs k (Nat.lt_of_succ_lt h) fun i hi => hl i (Nat.lt_succ_of_lt hi)]
      exact hl k (Nat.lt_succ_self k)))

/-- The chain as repeated maxima of a family: what is not below the entry before counts as the least value. -/
theorem sup_below {ι : Type} [Fintype ι] (f : ι → α) (d : α) :
    (Finset.univ.sup fun q => if f q < d then f q else ⊥) = ((Finset.univ.image f).filter (· < d)).sup id := by
  refine le_antisymm (Finset.sup_le fun q _ => ?_) (Finset.sup_le fun a ha => ?_)
  · split_ifs with h
    · exact Finset.le_sup (f := id) (Finset.mem_filter.mpr ⟨Finset.mem_image_of_mem f (Finset.mem_univ q), h⟩)
    · exact bot_le
  · obtain ⟨h1, h2⟩ := Finset.mem_filter.mp ha
    obtain ⟨q, -, rfl⟩ := Finset.mem_image.mp h1
    have := Finset.le_sup (f := fun q => if f q < d then f q else ⊥) (Finset.mem_univ q)
    rwa [if_pos h2] at this

/-- The largest of a family, as the largest of its values. -/
theorem sup_image {ι : Type} [Fintype ι] (f : ι → α) : Finset.univ.sup f = (Finset.univ.image f).sup id := by
  rw [Finset.sup_image]; rfl

end Cert.TopK

end
-- ==== Proof.Chain.lean ====
/-
# 01_k — the chains of maxima on extended reals

Read at the ideal floats, the chain of a block's row is the row's largest distinct entries, and the chain of a column of
candidates is the column's.
-/
module

public import proofs.«01_k».proof.Proof.Contents
public import proofs.«01_k».proof.Proof.Distinct
public import Idealize.ShloMosaic.PureOps.Ideal.Laws
public import Idealize.ShloMosaic.PureOps.Reduce
public import Idealize.ShloMosaic.Lib.ValueIdx

@[expose] public section

set_option maxRecDepth 16384

noncomputable section

namespace Cert.TopK

open Cert.KernelIdeal Cert.KernelIdeal.Gen
open Idealize.ShloMosaic Idealize.ShloMosaic.ValueKit Idealize.ShloMosaic.ValueIdx

/-- The words the kernel starts its maxima from are minus infinity. -/
theorem f32_least : Ideal.ofBits .f32 0xFF800000#32 = ⊥ := by simp [Ideal.ofBits, Ideal.ieee]
theorem bf16_least : Ideal.ofBits .bf16 0xFF80#16 = ⊥ := by simp [Ideal.ofBits, Ideal.ieee]

/-- A maximum taken from minus infinity is the least upper bound. -/
theorem fold_max {ι : Type} (S : Finset ι) (f : ι → EReal) : S.fold max ⊥ f = S.sup f := rfl

/-- A least upper bound over the indices with a given image, through any naming of them. -/
theorem sup_named {ι κ : Type} [Fintype κ] (S : Finset ι) (f : ι → EReal) (e : κ → ι) (he : ∀ i, i ∈ S ↔ ∃ q, e q = i) :
    S.sup f = Finset.univ.sup fun q => f (e q) := by
  refine le_antisymm (Finset.sup_le fun i hi => ?_) (Finset.sup_le fun q _ => Finset.le_sup (f := f) ((he _).mpr ⟨q, rfl⟩))
  obtain ⟨q, rfl⟩ := (he i).mp hi
  exact Finset.le_sup (f := fun q => f (e q)) (Finset.mem_univ q)

/-- The largest entry of a block's row. -/
theorem topB_apply (v : FVec Ideal S512x4096 .bf16) (p : Fin 512) :
    topB v (ix2 p 0) = Finset.univ.sup fun q : Fin 4096 => (v (ix2 p q) : EReal) := by
  unfold topB
  rw [shapeCast_apply _ shapeCasts_S512_S512x1 (ix2 p 0) (ix1 p) (by
    rw [Shape.rowMajor_val_two, Shape.rowMajor_val_one]
    show p.val = p.val * 1 + 0
    omega)]
  refine (multiReduction_maximumf_eq_fold v 0xFF80#16 reduces_S512x4096_S512 (.inr rfl) rfl (ix1 p)).trans ?_
  show Finset.fold max (Ideal.ofBits .bf16 0xFF80#16) _ _ = _
  rw [bf16_least, fold_max]
  refine sup_named _ _ (fun q : Fin 4096 => (ix2 p q : S512x4096.Idx)) fun i => ?_
  rw [Finset.mem_filter]
  have h0 := reduces_S512x4096_S512.drop_apply_val_of_eq i 0 0
  constructor
  · rintro ⟨-, h⟩
    refine ⟨i 1, ?_⟩
    have : (i 0).val = p.val := by rw [← h0, h]
    funext a
    fin_cases a
    · exact Fin.ext this.symm
    · rfl
  · rintro ⟨q, rfl⟩
    refine ⟨Finset.mem_univ _, ?_⟩
    rw [eq_ix1 (reduces_S512x4096_S512.drop (ix2 p q))]
    exact congrArg ix1 (Fin.ext h0)

/-- The largest entry of a column of candidates. -/
theorem topC_apply (v : FVec Ideal S32x512 .f32) (p : Fin 512) :
    topC v (ix2 0 p) = Finset.univ.sup fun q : Fin 32 => (v (ix2 q p) : EReal) := by
  unfold topC
  rw [shapeCast_apply _ shapeCasts_S512_S1x512 (ix2 0 p) (ix1 p) (by
    rw [Shape.rowMajor_val_two, Shape.rowMajor_val_one]
    show p.val = 0 * 512 + p.val
    omega)]
  refine (multiReduction_maximumf_eq_fold v 0xFF800000#32 reduces_S32x512_S512 (.inl rfl) rfl (ix1 p)).trans ?_
  show Finset.fold max (Ideal.ofBits .f32 0xFF800000#32) _ _ = _
  rw [f32_least, fold_max]
  refine sup_named _ _ (fun q : Fin 32 => (ix2 q p : S32x512.Idx)) fun i => ?_
  rw [Finset.mem_filter]
  have h0 := reduces_S32x512_S512.drop_apply_val_of_eq i 0 1
  constructor
  · rintro ⟨-, h⟩
    refine ⟨i 0, ?_⟩
    have : (i 1).val = p.val := by rw [← h0, h]
    funext a
    fin_cases a
    · rfl
    · exact Fin.ext this.symm
  · rintro ⟨q, rfl⟩
    refine ⟨Finset.mem_univ _, ?_⟩
    rw [eq_ix1 (reduces_S32x512_S512.drop (ix2 q p))]
    exact congrArg ix1 (Fin.ext h0)

/-- A choice on a strict comparison. -/
theorem select_lt {φ : FTy} (x d a b : Ideal φ) :
    Scalar.select (FloatOps.cmpf (F := Ideal) .olt x d) a b = if (x : EReal) < d then a else b := by
  show Scalar.select (BitVec.ofBool (decide ((x : EReal) < d))) a b = _
  by_cases h : (x : EReal) < d
  · rw [if_pos h, decide_eq_true h]; rfl
  · rw [if_neg h, decide_eq_false h]; rfl

theorem belowB_apply (mx : FVec Ideal S512x1 .bf16) (v : FVec Ideal S512x4096 .bf16) (p : Fin 512) (q : Fin 4096) :
    belowB mx v v (ix2 p q) = if (v (ix2 p q) : EReal) < mx (ix2 p 0) then v (ix2 p q) else (⊥ : EReal) := by
  unfold belowB
  rw [select_apply, cmpf_apply, broadcastTo_apply mx broadcasts_S512x1_S512x4096 (ix2 p q) (ix2 p 0) (by
    intro a; fin_cases a <;> rfl), select_lt]
  show (if _ then _ else Ideal.ofBits .f32 0xFF800000#32) = _
  rw [f32_least]

theorem belowC_apply (mx : FVec Ideal S1x512 .f32) (v : FVec Ideal S32x512 .f32) (q : Fin 32) (p : Fin 512) :
    belowC mx v v (ix2 q p) = if (v (ix2 q p) : EReal) < mx (ix2 0 p) then v (ix2 q p) else (⊥ : EReal) := by
  unfold belowC
  rw [select_apply, cmpf_apply, broadcastTo_apply mx broadcasts_S1x512_S32x512 (ix2 q p) (ix2 0 p) (by
    intro a; fin_cases a <;> rfl), select_lt]
  show (if _ then _ else Ideal.ofBits .f32 0xFF800000#32) = _
  rw [f32_least]

/-- The values in a block's row. -/
def rowSet (v : FVec Ideal S512x4096 .f32) (p : Fin 512) : Finset EReal := Finset.univ.image fun q : Fin 4096 => (v (ix2 p q) : EReal)

/-- The values in a column of candidates. -/
def colSet (v : FVec Ideal S32x512 .f32) (p : Fin 512) : Finset EReal := Finset.univ.image fun q : Fin 32 => (v (ix2 q p) : EReal)

/-- The chain of a block's row is its largest distinct entries. -/
theorem mxB_apply (v : FVec Ideal S512x4096 .f32) (p : Fin 512) :
    ∀ k, mxB (truncf .bf16 v bitsLt_bf16_f32) k (ix2 p 0) = top (rowSet v p) k
  | 0 => (topB_apply _ p).trans (sup_image _)
  | k + 1 => by
    unfold mxB
    rw [topB_apply]
    refine Eq.trans ?_ (sup_below (fun q : Fin 4096 => (v (ix2 p q) : EReal)) (top (rowSet v p) k))
    refine congrArg (Finset.sup Finset.univ) (funext fun q => ?_)
    rw [belowB_apply, mxB_apply v p k]
    rfl

/-- The chain of a column of candidates is its largest distinct entries. -/
theorem mxC_apply (v : FVec Ideal S32x512 .f32) (p : Fin 512) : ∀ k, mxC v k (ix2 0 p) = top (colSet v p) k
  | 0 => (topC_apply _ p).trans (sup_image _)
  | k + 1 => by
    unfold mxC
    rw [topC_apply]
    refine Eq.trans ?_ (sup_below (fun q : Fin 32 => (v (ix2 q p) : EReal)) (top (colSet v p) k))
    refine congrArg (Finset.sup Finset.univ) (funext fun q => ?_)
    rw [belowC_apply, mxC_apply v p k]

end Cert.TopK

end
-- ==== Proof.Butterfly.lean ====
/-
# 01_k — what the rounds leave on a device

After `r` rounds a device's list holds the largest distinct entries of the blocks of the `2 ^ r` devices it has heard
from; after five, of all the blocks.
-/
module

public import proofs.«01_k».proof.Proof.Chain

@[expose] public section

set_option maxRecDepth 16384

noncomputable section

namespace Cert.TopK

open Cert.KernelIdeal Cert.KernelIdeal.Gen
open Idealize.ShloMosaic Idealize.ShloMosaic.ValueKit Idealize.ShloMosaic.ValueIdx
open Idealize.ShloMosaic.Pipeline

/-- The devices whose blocks a device's list speaks of after `r` rounds. -/
def heard : ℕ → Dev nD → Finset (Dev nD)
  | 0, c => {c}
  | r + 1, c => heard r c ∪ heard r (flip r c)

set_option maxHeartbeats 4000000 in
/-- After five rounds a device has heard from every device. -/
theorem heard_all (c : Dev nD) : heard 5 c = Finset.univ := by revert c; decide

/-- The values of the row `p` in the blocks a device has heard from. -/
def heardSet (x : Dev nD → FVec Ideal S512x4096 .f32) (r : ℕ) (c : Dev nD) (p : Fin 512) : Finset EReal :=
  (heard r c).biUnion fun d => rowSet (x d) p

theorem heardSet_succ (x : Dev nD → FVec Ideal S512x4096 .f32) (r : ℕ) (c : Dev nD) (p : Fin 512) :
    heardSet x (r + 1) c p = heardSet x r c p ∪ heardSet x r (flip r c) p := by
  unfold heardSet
  exact Finset.union_biUnion

/-- The first list: the block's own largest distinct entries. -/
theorem lst0_apply (v : FVec Ideal S512x4096 .f32) (j : Fin 16) (p : Fin 512) :
    lst0 v (ix2 j p) = top (rowSet v p) j.val := by
  unfold lst0
  rw [transpose_apply [1, 0] _ transposes_S512x16_p1_0_S16x512 (ix2 j p) (ix2 p j) (by
    intro a; fin_cases a <;> rfl)]
  exact mxB_apply v p j.val

/-- A column of two stacked lists holds the entries of either. -/
theorem mem_stack (a b : FVec Ideal S16x512 .f32) (p : Fin 512) (t : EReal) :
    t ∈ colSet (stack a b) p ↔ (∃ i : Fin 16, (a (ix2 i p) : EReal) = t) ∨ ∃ i : Fin 16, (b (ix2 i p) : EReal) = t := by
  unfold colSet
  rw [Finset.mem_image]
  constructor
  · rintro ⟨q, -, rfl⟩
    by_cases h : q.val < 16
    · exact Or.inl ⟨⟨q.val, h⟩, by
        unfold stack; symm; exact dif_pos h⟩
    · exact Or.inr ⟨⟨q.val - 16, by have := q.isLt; omega⟩, by
        unfold stack; symm; exact dif_neg h⟩
  · rintro (⟨i, rfl⟩ | ⟨i, rfl⟩)
    · refine ⟨⟨i.val, by have := i.isLt; omega⟩, Finset.mem_univ _, ?_⟩
      unfold stack
      exact dif_pos i.isLt
    · refine ⟨⟨i.val + 16, by have := i.isLt; omega⟩, Finset.mem_univ _, ?_⟩
      unfold stack
      refine (dif_neg (show ¬ i.val + 16 < 16 by omega)).trans ?_
      exact congrArg (fun k : Fin 16 => b (ix2 k p)) (Fin.ext (Nat.add_sub_cancel _ _))

/-- After `r` rounds a device's list holds the largest distinct entries of the blocks it has heard from. -/
theorem lst_apply (x : Dev nD → FVec Ideal S512x4096 .f32) (p : Fin 512) :
    ∀ (r : ℕ) (c : Dev nD) (j : Fin 16), lst x r c (ix2 j p) = top (heardSet x r c p) j.val
  | 0, c, j => by
    refine (lst0_apply (x c) j p).trans ?_
    unfold heardSet heard
    rw [Finset.singleton_biUnion]
  | r + 1, c, j => by
    rw [heardSet_succ]
    refine (mxC_apply (stack (lst x r c) (lst x r (flip r c))) p j.val).trans ?_
    refine top_merge (n := 16) (fun t => ?_) j.val j.isLt
    rw [mem_stack]
    constructor
    · rintro (⟨i, h⟩ | ⟨i, h⟩)
      · exact Or.inl ⟨i.val, i.isLt, (lst_apply x p r c i).symm.trans h⟩
      · exact Or.inr ⟨i.val, i.isLt, (lst_apply x p r (flip r c) i).symm.trans h⟩
    · rintro (⟨i, hi, h⟩ | ⟨i, hi, h⟩)
      · exact Or.inl ⟨⟨i, hi⟩, (lst_apply x p r c ⟨i, hi⟩).trans h⟩
      · exact Or.inr ⟨⟨i, hi⟩, (lst_apply x p r (flip r c) ⟨i, hi⟩).trans h⟩

/-- The values in a row of the whole array. -/
def wholeRow (g : FVec Ideal ⟨2, ![512, 131072]⟩ .f32) (p : Fin 512) : Finset EReal :=
  Finset.univ.image fun q : Fin 131072 => (g (ix2 p q) : EReal)

/-- A device's result, when the blocks are the column blocks of a whole array: the row's largest distinct entries. -/
theorem outOf_apply (g : FVec Ideal ⟨2, ![512, 131072]⟩ .f32) (x : Dev nD → FVec Ideal S512x4096 .f32)
    (hx : ∀ (d : Dev nD) (p : Fin 512) (q : Fin 4096), ∀ k : Fin 131072, k.val = d.val * 4096 + q.val → x d (ix2 p q) = g (ix2 p k))
    (c : Dev nD) (p : Fin 512) (j : Fin 16) : outOf x c (ix2 p j) = top (wholeRow g p) j.val := by
  unfold outOf
  rw [transpose_apply [1, 0] _ transposes_S16x512_p1_0_S512x16 (ix2 p j) (ix2 j p) (by
    intro a; fin_cases a <;> rfl), lst_apply x p 5 c j]
  refine congrArg (fun A => top A j.val) ?_
  unfold heardSet wholeRow
  rw [heard_all]
  ext t
  simp only [rowSet, Finset.mem_biUnion, Finset.mem_univ, true_and, Finset.mem_image]
  constructor
  · rintro ⟨d, q, rfl⟩
    have hd : d.val < 32 := d.isLt
    have hq := q.isLt
    exact ⟨⟨d.val * 4096 + q.val, by omega⟩, (hx d p q _ rfl).symm⟩
  · rintro ⟨k, rfl⟩
    have hk := k.isLt
    refine ⟨⟨k.val / 4096, show k.val / 4096 < 32 by omega⟩, ⟨k.val % 4096, by omega⟩, hx _ _ _ _ ?_⟩
    show k.val = k.val / 4096 * 4096 + k.val % 4096
    omega

end Cert.TopK

end
-- ==== Proof.Sorted.lean ====
/-
# 01_k — the sorted row

Both the reference and the claim's mask sort the negated row, the reference carrying the positions along. At the ideal
floats both sort by the same order, so one enumeration of the row, from its largest entry down, serves both.
-/
module

public import proofs.«01_k».proof.ReferenceIdeal
public import proofs.«01_k».proof.On_no_tie
public import Idealize.ShloMosaic.Lib.SortFacts
public import Idealize.ShloMosaic.Lib.ValueIdx
public import Idealize.ShloMosaic.PureOps.Ideal.Laws

@[expose] public section

set_option maxRecDepth 16384

noncomputable section

namespace Cert.TopK

open Idealize.ShloMosaic Idealize.ShloMosaic.ValueIdx

/-- The whole array's shape. -/
abbrev Whole : Shape := ⟨2, ![512, 131072]⟩

/-- A choice on a decided bit. -/
theorem choose_bit {α : Type} (p : Prop) [Decidable p] (a b : α) : Scalar.select (BitVec.ofBool (decide p)) a b = if p then a else b := by
  by_cases h : p
  · rw [if_pos h, decide_eq_true h]; rfl
  · rw [if_neg h, decide_eq_false h]; rfl

/-- The sort's rewriting of its keys — one zero, one not-a-number — changes no extended real. -/
theorem key_eq (x n : EReal) :
    Scalar.select (FloatOps.cmpf (F := Ideal) (φ := .f32) .une x x) n
      (Scalar.select (FloatOps.cmpf (F := Ideal) (φ := .f32) .oeq x (Ideal.ofBits .f32 0x00000000#32)) (Ideal.ofBits .f32 0x00000000#32) x) = x := by
  show Scalar.select (BitVec.ofBool (decide (x ≠ x))) n
    (Scalar.select (BitVec.ofBool (decide (x = Ideal.ofBits .f32 0x00000000#32))) (Ideal.ofBits .f32 0x00000000#32) x) = x
  rw [choose_bit, choose_bit, if_neg (fun h => h rfl)]
  split_ifs with h
  · exact h.symm
  · rfl

section
variable [Cert.ReferenceIdeal.Facts₀]

theorem refOrder (l r : Ideal .f32 × BitVec 32) :
    Cert.ReferenceIdeal.comparator_f32_i32_d1 (F := Ideal) l r = BitVec.ofBool (decide ((l.1 : EReal) < r.1)) := by
  refine (congrArg₂ (fun a b : EReal => FloatOps.cmpfTotal (F := Ideal) (φ := .f32) .lt a b) (key_eq l.1 _) (key_eq r.1 _)).trans ?_
  rfl

end

theorem maskOrder (l r : Ideal .f32) : Cert.On_no_tie.comparator_f32_d1 (F := Ideal) l r = BitVec.ofBool (decide ((l : EReal) < r)) := by
  refine (congrArg₂ (fun a b : EReal => FloatOps.cmpfTotal (F := Ideal) (φ := .f32) .lt a b) (key_eq l _) (key_eq r _)).trans ?_
  rfl

/-- The positions of a row, from its largest entry down. -/
def desc {n : ℕ} (f : Fin n → EReal) : Fin n → Fin n := sortedFrom fun k k' => BitVec.ofBool (decide (-f k < -f k')) == 1#1

theorem desc_surjective {n : ℕ} (f : Fin n → EReal) : Function.Surjective (desc f) := sortedFrom_surjective _

/-- A decided bit is one just when its proposition holds. -/
theorem bit_beq (p : Prop) [Decidable p] : (BitVec.ofBool (decide p) == 1#1) = decide p := by
  by_cases h : p
  · rw [decide_eq_true h]; rfl
  · rw [decide_eq_false h]; rfl

/-- The entries descend along it. -/
theorem desc_antitone {n : ℕ} (f : Fin n → EReal) : Antitone fun k => f (desc f k) := by
  intro i j hij
  rcases hij.eq_or_lt with rfl | h
  · exact le_rfl
  have key := sortedFrom_noInversion (fun k k' : Fin n => decide (-f k < -f k'))
    (fun k k' => BitVec.ofBool (decide (-f k < -f k')) == 1#1)
    (fun a b hab => by
      rw [bit_beq] at hab
      exact decide_eq_false (not_lt.mpr (of_decide_eq_true hab).le))
    (fun a b hab => by rw [bit_beq]; exact hab)
    (fun a b c hab hbc => decide_eq_false (not_lt.mpr
      ((not_lt.mp (of_decide_eq_false hbc)).trans (not_lt.mp (of_decide_eq_false hab))))) i j h
  exact EReal.neg_le_neg_iff.mp (not_lt.mp (of_decide_eq_false key))

theorem along_row (p : Fin 512) (q k : Fin 131072) : (ix2 p q : Whole.Idx).along 1 k = ix2 p k := by
  funext a
  match a with
  | ⟨0, _⟩ => rfl
  | ⟨1, _⟩ => rfl

/-- Row `p` of the whole array. -/
abbrev rowOf (g : FVec Ideal Whole .f32) (p : Fin 512) : Fin 131072 → EReal := fun q => g (ix2 p q)

/-- The mask's sorted array. -/
theorem mask_sorted (g : FVec Ideal Whole .f32) (p : Fin 512) (q : Fin 131072) :
    Host.sort Whole 1 (Cert.On_no_tie.comparator_f32_d1 (F := Ideal)) (Host.negf g) (ix2 p q) = -(rowOf g p (desc (rowOf g p) q)) := by
  have hc : (Cert.On_no_tie.comparator_f32_d1 (F := Ideal)) = fun l r => BitVec.ofBool (decide ((l : EReal) < r)) :=
    funext fun l => funext fun r => maskOrder l r
  rw [hc]
  unfold Host.sort
  rw [dif_pos (show 1 < Whole.rank by decide)]
  exact congrArg (fun A : Fin 131072 → Whole.Idx => -(g (A (desc (fun k => g (A k)) q)) : EReal)) (funext (along_row p q))

/-- What the reference's sort carries along. -/
theorem ref_carried [Cert.ReferenceIdeal.Facts₀] (g : FVec Ideal Whole .f32) (y : IVec Whole 32) (p : Fin 512) (q : Fin 131072) :
    (Host.sort2 Whole 1 (Cert.ReferenceIdeal.comparator_f32_i32_d1 (F := Ideal)) (Host.negf g) y).2 (ix2 p q)
      = y (ix2 p (desc (rowOf g p) q)) := by
  have hc : (Cert.ReferenceIdeal.comparator_f32_i32_d1 (F := Ideal)) = fun l r => BitVec.ofBool (decide ((l.1 : EReal) < r.1)) :=
    funext fun l => funext fun r => refOrder l r
  rw [hc]
  unfold Host.sort2
  rw [dif_pos (show 1 < Whole.rank by decide)]
  exact congrArg (fun A : Fin 131072 → Whole.Idx => y (A (desc (fun k => (g (A k) : EReal)) q))) (funext (along_row p q))

/-- The reference's sorted positions. -/
theorem ref_sorted [Cert.ReferenceIdeal.Facts₀] (g : FVec Ideal Whole .f32) (p : Fin 512) (q : Fin 131072) :
    (Host.sort2 Whole 1 (Cert.ReferenceIdeal.comparator_f32_i32_d1 (F := Ideal)) (Host.negf g) (iotaInDim Whole 32 1)).2 (ix2 p q)
      = BitVec.ofNat 32 (desc (rowOf g p) q).val := by
  rw [ref_carried]
  unfold iotaInDim
  rfl

end Cert.TopK

end
-- ==== Proof.Reference.lean ====
/-
# 01_k — the reference's result

The reference takes, at each place of the list, the row's entry at the sorted position: the position is in range, so its
wrapping and its bounds check change nothing.
-/
module

public import proofs.«01_k».proof.Proof.Sorted
public import proofs.«01_k».proof.Proof.Gen.ReferenceIdeal
public import Idealize.ShloMosaic.Lib.ReduceAll
public import Idealize.ShloMosaic.Lib.Pipeline.Value

@[expose] public section

set_option maxRecDepth 16384

noncomputable section

namespace Cert.TopK

open Cert.ReferenceIdeal Cert.ReferenceIdeal.Gen
open Idealize.ShloMosaic Idealize.ShloMosaic.ValueIdx

/-- A gather along the rows of a matrix, one column index per entry of the result: the matrix at the clamped index. -/
theorem gather_along_rows {α : Type} (x : S512x131072.Idx → α) (idx : IVec S512x16x1 32) (p : Fin 512) (j : Fin 16) :
    Host.gather gather_S512x131072_S512x16x1_S512x16_n_1_0_0_1_2_11 x idx (ix2 p j)
      = x (ix2 p ⟨min (idx (ix3 p j 0)).toInt.toNat (131072 - 1), by omega⟩) := by
  unfold Host.gather
  refine congrArg x (funext fun a => Fin.ext ?_)
  show GatherDims.start gather_S512x131072_S512x16x1_S512x16_n_1_0_0_1_2_11 (ix2 p j) idx a
    + GatherDims.batchCoord gather_S512x131072_S512x16x1_S512x16_n_1_0_0_1_2_11 (ix2 p j) a
    + GatherDims.offCoord gather_S512x131072_S512x16x1_S512x16_n_1_0_0_1_2_11 (ix2 p j) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ fun h => ((GatherDims.mem_sKept _ _).mp h).2 (List.mem_singleton.mpr rfl)]
    rw [Nat.zero_add, Nat.add_zero]
    unfold GatherDims.batchCoord
    rw [dif_pos (show (0 : Fin 2) ∈ GatherDims.operandBatchingDims gather_S512x131072_S512x16x1_S512x16_n_1_0_0_1_2_11 from List.mem_singleton.mpr rfl)]
    rfl
  · rw [GatherDims.batchCoord_eq_zero _ _ _ (fun h => absurd (List.mem_singleton.mp h) (by decide)),
      GatherDims.offCoord_eq_zero _ _ _ fun h => ((GatherDims.mem_sKept _ _).mp h).1 (List.mem_singleton.mpr rfl)]
    rw [Nat.add_zero]
    unfold GatherDims.start
    rw [dif_pos (show (1 : Fin 2) ∈ GatherDims.startIndexMap gather_S512x131072_S512x16x1_S512x16_n_1_0_0_1_2_11 from List.mem_singleton.mpr rfl)]
    have hsi : GatherDims.siIdx gather_S512x131072_S512x16x1_S512x16_n_1_0_0_1_2_11 (ix2 p j)
        ⟨List.idxOf (1 : Fin 2) (GatherDims.startIndexMap gather_S512x131072_S512x16x1_S512x16_n_1_0_0_1_2_11),
          List.idxOf_lt_length_iff.2 (List.mem_singleton.mpr rfl)⟩ = ix3 p j 0 := by
      funext b
      match b with
      | ⟨0, _⟩ => rfl
      | ⟨1, _⟩ => rfl
      | ⟨2, _⟩ => rfl
    rw [hsi]
    rfl

/-- A position of the row as a word reads back as itself. -/
theorem pos_toInt (k : Fin 131072) : (BitVec.ofNat 32 k.val).toInt = k.val := by
  have h := k.isLt
  have e : (BitVec.ofNat 32 k.val).toNat = k.val := by
    rw [BitVec.toNat_ofNat]
    exact Nat.mod_eq_of_lt (by omega)
  rw [BitVec.toInt_eq_toNat_of_lt (by rw [e]; omega), e]

/-- The sorted positions the reference keeps. -/
def kept (g : FVec Ideal S512x131072 .f32) : IVec S512x16 32 :=
  extractStridedSlice S512x16 ![0, 0] ((Host.sort2 S512x131072 1 comparator_f32_i32_d1 (Host.negf g) (iotaInDim S512x131072 32 1)).2) slices_S512x131072_S512x16_0_0

/-- A place of the list as a place of the sorted row. -/
abbrev place (j : Fin 16) : Fin 131072 := ⟨j.val, Nat.lt_trans j.isLt (by omega)⟩

theorem kept_apply (g : FVec Ideal S512x131072 .f32) (p : Fin 512) (j : Fin 16) :
    kept g (ix2 p j) = BitVec.ofNat 32 (desc (rowOf g p) (place j)).val := by
  unfold kept
  rw [extractStridedSlice_apply ![0, 0] _ slices_S512x131072_S512x16_0_0 (ix2 p j) (ix2 p (place j)) (by
    intro a
    match a with
    | ⟨0, _⟩ => exact (Nat.zero_add _).symm
    | ⟨1, _⟩ => exact (Nat.zero_add _).symm)]
  exact ref_sorted g p (place j)

/-- The positions wrapped and given the gather's trailing axis. -/
def wrapped (g : FVec Ideal S512x131072 .f32) : IVec S512x16x1 32 :=
  shapeCast _ (select (cmpi .slt (kept g) (broadcastInDim S512x16 ![] bcast_S_S512x16 (constantI S_ 32 0#32)))
    (addi (kept g) (broadcastInDim S512x16 ![] bcast_S_S512x16 (constantI S_ 32 131072#32))) (kept g)) shapeCasts_S512x16_S512x16x1

theorem wrapped_apply (g : FVec Ideal S512x131072 .f32) (p : Fin 512) (j : Fin 16) :
    wrapped g (ix3 p j 0) = BitVec.ofNat 32 (desc (rowOf g p) (place j)).val := by
  unfold wrapped
  rw [shapeCast_apply _ shapeCasts_S512x16_S512x16x1 (ix3 p j 0) (ix2 p j) (by
    rw [Shape.rowMajor_val_two, Shape.rowMajor_val_three]
    show p.val * 16 + j.val = (p.val * 16 + j.val) * 1 + 0
    omega)]
  rw [select_apply]
  show Scalar.select (BitVec.ofBool ((kept g (ix2 p j)).slt 0#32)) _ _ = _
  rw [kept_apply, BitVec.slt, pos_toInt, choose_bit, if_neg (by
    rw [show (0#32 : BitVec 32).toInt = 0 from rfl]; omega)]

/-- The bounds check of the positions. -/
def inRange (g : FVec Ideal S512x131072 .f32) : IVec S512x16x1 1 :=
  andi (cmpi .sge (wrapped g) (broadcastInDim S512x16x1 ![] bcast_S_S512x16x1 (constantI S_ 32 0#32)))
    (cmpi .sle (wrapped g) (broadcastInDim S512x16x1 ![0, 1, 2] bcast_S1x1x1_S512x16x1_0_1_2
      (broadcastInDim S1x1x1 ![2] bcast_S1_S1x1x1_2 (constantI S1 32 131071#32))))

theorem inRange_at (g : FVec Ideal S512x131072 .f32) (p : Fin 512) (j : Fin 16) : inRange g (ix3 p j 0) = 1#1 := by
  have hk := (desc (rowOf g p) (place j)).isLt
  show IntOp.andi (BitVec.ofBool (BitVec.sle 0#32 (wrapped g (ix3 p j 0)))) (BitVec.ofBool (BitVec.sle (wrapped g (ix3 p j 0)) 131071#32)) = 1#1
  rw [wrapped_apply, BitVec.sle, BitVec.sle, pos_toInt, show (0#32 : BitVec 32).toInt = 0 from rfl,
    show (131071#32 : BitVec 32).toInt = 131071 from rfl, decide_eq_true (by omega), decide_eq_true (by omega)]
  rfl

theorem inRange_one (g : FVec Ideal S512x131072 .f32) (i : S512x16x1.Idx) : inRange g i = 1#1 := by
  have hi : i = ix3 (i 0) (i 1) 0 := by
    refine (eq_ix3 i).trans (congrArg (ix3 (i 0) (i 1)) (Fin.ext ?_))
    have : (i 2).val < 1 := (i 2).isLt
    show (i 2).val = 0
    omega
  exact (congrArg (inRange g) hi).trans (inRange_at g (i 0) (i 1))

/-- The reference's result. -/
def refOut (g : FVec Ideal S512x131072 .f32) : FVec Ideal S512x16 .f32 :=
  select (Host.reduce IntOp.andi (inRange g) (constantI S_ 1 1#1) reducesTo_S512x16x1_S512x16_d2 h_S_)
    (Host.gather gather_S512x131072_S512x16x1_S512x16_n_1_0_0_1_2_11 g (wrapped g))
    (broadcastInDim S512x16 ![] bcast_S_S512x16 (constant S_ .f32 0x7FC00000#32))

/-- Place `j` of row `p` is the row's entry at the sorted position. -/
theorem refOut_apply (g : FVec Ideal S512x131072 .f32) (p : Fin 512) (j : Fin 16) :
    refOut g (ix2 p j) = rowOf g p (desc (rowOf g p) (place j)) := by
  have hk := (desc (rowOf g p) (place j)).isLt
  unfold refOut
  rw [select_apply, Host.reduce_andi_one (inRange g) _ reducesTo_S512x16x1_S512x16_d2 h_S_ (ix2 p j) rfl (inRange_one g), select_one,
    gather_along_rows]
  refine congrArg (fun k => g (ix2 p k)) (Fin.ext ?_)
  show min (wrapped g (ix3 p j 0)).toInt.toNat (131072 - 1) = (desc (rowOf g p) (place j)).val
  rw [wrapped_apply, pos_toInt]
  omega

end Cert.TopK

end
-- ==== Proof.Mask.lean ====
/-
# 01_k — what the mask says

Where the mask is set, the sorted row descends strictly up to the place, or the place holds minus infinity.
-/
module

public import proofs.«01_k».proof.Proof.Sorted
public import Idealize.ShloMosaic.Lib.ReduceAll
public import Idealize.ShloMosaic.Lib.Pipeline.Value

@[expose] public section

set_option maxRecDepth 16384

noncomputable section

namespace Cert.TopK

open Cert.On_no_tie
open Idealize.ShloMosaic Idealize.ShloMosaic.ValueIdx

/-- The mask's side conditions. -/
instance maskFacts : Cert.On_no_tie.Facts where
  slices_S512x131072_S512x16_0_0 := by decide
  slices_S512x16_S512x15_0_0 := by decide
  slices_S512x16_S512x15_0_1 := by decide
  bcast_S15_S1x15_1 := by decide
  bcast_S16_S16x1_0 := by decide
  bcast_S1x15_S16x15_0_1 := by decide
  bcast_S16x1_S16x15_0_1 := by decide
  bcast_S512x15_S512x1x15_0_2 := by decide
  bcast_S16x15_S1x16x15_1_2 := by decide
  bcast_S512x1x15_S512x16x15_0_1_2 := by decide
  bcast_S1x16x15_S512x16x15_0_1_2 := by decide
  reducesTo_S512x16x15_S512x16_d2 := by decide
  h_S_ := by decide
  bcast_S_S512x16 := by decide

/-- The sixteen least of the negated row. -/
def least (g : FVec Ideal S512x131072 .f32) : FVec Ideal S512x16 .f32 :=
  extractStridedSlice S512x16 ![0, 0] (Host.sort S512x131072 1 (comparator_f32_d1 (F := Ideal)) (Host.negf g)) Facts.slices_S512x131072_S512x16_0_0

/-- A place of the sorted row. -/
abbrev at16 (j : ℕ) (h : j < 16) : Fin 131072 := ⟨j, Nat.lt_trans h (by omega)⟩

theorem least_apply (g : FVec Ideal S512x131072 .f32) (p : Fin 512) (j : Fin 16) :
    least g (ix2 p j) = -(rowOf g p (desc (rowOf g p) (at16 j.val j.isLt))) := by
  unfold least
  rw [extractStridedSlice_apply ![0, 0] _ Facts.slices_S512x131072_S512x16_0_0 (ix2 p j) (ix2 p (at16 j.val j.isLt)) (by
    intro a
    match a with
    | ⟨0, _⟩ => exact (Nat.zero_add _).symm
    | ⟨1, _⟩ => exact (Nat.zero_add _).symm)]
  exact mask_sorted g p _

/-- One comparison of neighbours, or past the place. -/
def apart (g : FVec Ideal S512x131072 .f32) : IVec S512x16x15 1 :=
  ori
    (broadcastInDim S512x16x15 ![0, 1, 2] Facts.bcast_S512x1x15_S512x16x15_0_1_2
      (broadcastInDim S512x1x15 ![0, 2] Facts.bcast_S512x15_S512x1x15_0_2
        (cmpf .olt (extractStridedSlice S512x15 ![0, 0] (least g) Facts.slices_S512x16_S512x15_0_0)
          (extractStridedSlice S512x15 ![0, 1] (least g) Facts.slices_S512x16_S512x15_0_1))))
    (broadcastInDim S512x16x15 ![0, 1, 2] Facts.bcast_S1x16x15_S512x16x15_0_1_2
      (broadcastInDim S1x16x15 ![1, 2] Facts.bcast_S16x15_S1x16x15_1_2
        (cmpi .sge (broadcastInDim S16x15 ![0, 1] Facts.bcast_S1x15_S16x15_0_1 (broadcastInDim S1x15 ![1] Facts.bcast_S15_S1x15_1 (iotaInDim S15 32 0)))
          (broadcastInDim S16x15 ![0, 1] Facts.bcast_S16x1_S16x15_0_1 (broadcastInDim S16x1 ![0] Facts.bcast_S16_S16x1_0 (iotaInDim S16 32 0))))))

theorem fn_eq (g : FVec Ideal S512x131072 .f32) :
    Cert.On_no_tie.fn (F := Ideal) g = ori (Host.reduce IntOp.andi (apart g) (constantI S_ 1 1#1) Facts.reducesTo_S512x16x15_S512x16_d2 Facts.h_S_)
      (cmpf .oeq (least g) (broadcastInDim S512x16 ![] Facts.bcast_S_S512x16 (constant S_ .f32 0x7F800000#32))) := rfl

theorem apart_apply (g : FVec Ideal S512x131072 .f32) (p : Fin 512) (j : Fin 16) (k : Fin 15) :
    apart g (ix3 p j k)
      = IntOp.ori (BitVec.ofBool (decide ((least g (ix2 p ⟨k.val, by omega⟩) : EReal) < least g (ix2 p ⟨k.val + 1, by omega⟩))))
          (IntOp.cmpi .sge (BitVec.ofNat 32 k.val) (BitVec.ofNat 32 j.val)) := by
  unfold apart
  refine congrArg₂ IntOp.ori ?_ ?_
  · rw [broadcastInDim_apply _ _ _ (ix3 p j k) (ix3 p 0 k) (by
        intro a; match a with | ⟨0, _⟩ => rfl | ⟨1, _⟩ => rfl | ⟨2, _⟩ => rfl),
      broadcastInDim_apply _ _ _ (ix3 p 0 k) (ix2 p k) (by
        intro a; match a with | ⟨0, _⟩ => rfl | ⟨1, _⟩ => rfl), cmpf_apply,
      extractStridedSlice_apply ![0, 0] _ Facts.slices_S512x16_S512x15_0_0 (ix2 p k) (ix2 p ⟨k.val, by omega⟩) (by
        intro a; match a with | ⟨0, _⟩ => exact (Nat.zero_add _).symm | ⟨1, _⟩ => exact (Nat.zero_add _).symm),
      extractStridedSlice_apply ![0, 1] _ Facts.slices_S512x16_S512x15_0_1 (ix2 p k) (ix2 p ⟨k.val + 1, by omega⟩) (by
        intro a; match a with | ⟨0, _⟩ => exact (Nat.zero_add _).symm | ⟨1, _⟩ => exact Nat.add_comm _ _)]
    rfl
  · rw [broadcastInDim_apply _ _ _ (ix3 p j k) (ix3 0 j k) (by
        intro a; match a with | ⟨0, _⟩ => rfl | ⟨1, _⟩ => rfl | ⟨2, _⟩ => rfl),
      broadcastInDim_apply _ _ _ (ix3 0 j k) (ix2 j k) (by
        intro a; match a with | ⟨0, _⟩ => rfl | ⟨1, _⟩ => rfl)]
    refine congrArg₂ (IntOp.cmpi .sge) ?_ ?_
    · rw [broadcastInDim_apply _ Facts.bcast_S1x15_S16x15_0_1 _ (ix2 j k) (ix2 0 k) (by
          intro a; match a with | ⟨0, _⟩ => rfl | ⟨1, _⟩ => rfl),
        broadcastInDim_apply _ Facts.bcast_S15_S1x15_1 _ (ix2 0 k) (ix1 k) (by
          intro a; match a with | ⟨0, _⟩ => rfl)]
      unfold iotaInDim
      rfl
    · rw [broadcastInDim_apply _ Facts.bcast_S16x1_S16x15_0_1 _ (ix2 j k) (ix2 j 0) (by
          intro a; match a with | ⟨0, _⟩ => rfl | ⟨1, _⟩ => rfl),
        broadcastInDim_apply _ Facts.bcast_S16_S16x1_0 _ (ix2 j 0) (ix1 j) (by
          intro a; match a with | ⟨0, _⟩ => rfl)]
      unfold iotaInDim
      rfl

theorem small_toInt (n : ℕ) (h : n < 16) : (BitVec.ofNat 32 n).toInt = n := by
  have e : (BitVec.ofNat 32 n).toNat = n := by
    rw [BitVec.toNat_ofNat]
    exact Nat.mod_eq_of_lt (by omega)
  rw [BitVec.toInt_eq_toNat_of_lt (by rw [e]; omega), e]

theorem or_bits (a b : BitVec 1) : IntOp.ori a b = 1#1 → a = 1#1 ∨ b = 1#1 := by
  revert a b; decide

theorem bit_one {p : Prop} [Decidable p] (h : BitVec.ofBool (decide p) = 1#1) : p := by
  by_contra hp
  rw [decide_eq_false hp] at h
  exact absurd h (by decide)

/-- Where the mask is set: strict descent up to the place, or minus infinity there. -/
theorem mask_says (g : FVec Ideal S512x131072 .f32) (p : Fin 512) (j : Fin 16) (h : Cert.On_no_tie.fn (F := Ideal) g (ix2 p j) = 1#1) :
    (∀ k (hk : k < j.val), rowOf g p (desc (rowOf g p) (at16 (k + 1) (by omega))) < rowOf g p (desc (rowOf g p) (at16 k (by omega))))
      ∨ rowOf g p (desc (rowOf g p) (at16 j.val j.isLt)) = ⊥ := by
  rw [fn_eq] at h
  rcases or_bits _ _ h with h | h
  · left
    intro k hk
    have hj := j.isLt
    have e := Host.reduce_andi_eq_one _ _ _ _ _ h (ix3 p j ⟨k, by omega⟩) (by
      refine (eq_ix2 _).trans ?_
      exact congrArg₂ ix2 (Fin.ext (Facts.reducesTo_S512x16x15_S512x16_d2.drop_apply_val_of_eq _ 0 0))
        (Fin.ext (Facts.reducesTo_S512x16x15_S512x16_d2.drop_apply_val_of_eq _ 1 1)))
    rw [apart_apply] at e
    rcases or_bits _ _ e with e | e
    · have := bit_one e
      rw [least_apply, least_apply] at this
      exact EReal.neg_lt_neg_iff.mp this
    · replace e : BitVec.ofBool ((BitVec.ofNat 32 j.val).sle (BitVec.ofNat 32 k)) = 1#1 := e
      rw [BitVec.sle, small_toInt _ hj, small_toInt k (by omega)] at e
      have := bit_one e
      omega
  · right
    have e : (least g (ix2 p j) : EReal) = Ideal.ofBits .f32 0x7F800000#32 := bit_one h
    rw [least_apply, show Ideal.ofBits .f32 0x7F800000#32 = ⊤ by simp [Ideal.ofBits, Ideal.ieee]] at e
    exact EReal.neg_eq_top_iff.mp e

end Cert.TopK

end
-- ==== Proof.Algebraic.lean ====
/-
# 01_k — the kernel computes the reference's list

On extended reals, where the mask is set, every device's result is the reference's: both are the row's entry at the
sorted position, the kernel's because its list holds the row's largest distinct entries.
-/
module

public import proofs.«01_k».proof.Proof.Outcome
public import proofs.«01_k».proof.Proof.Butterfly
public import proofs.«01_k».proof.Proof.Reference
public import proofs.«01_k».proof.Proof.Mask
public import proofs.«01_k».proof.Proof.Gen.ReferenceIdeal.Run
public import proofs.«01_k».proof.Defs
public import Idealize.ShloMosaic.Lib.Layout

@[expose] public section

set_option maxRecDepth 16384

noncomputable section

namespace Cert.TopK

open Idealize.ShloMosaic Idealize.ShloMosaic.TcCoe Idealize.ShloMosaic.ValueIdx Idealize.SL.Sem

/-- The blocks of the argument tile it along its columns. -/
theorem tiles : Layout.Tiles ⟨2, ![512, 4096]⟩ ⟨2, ![512, 131072]⟩ 1 32 := by decide

/-- Where the mask is set, the row's largest distinct entries are the sorted row's. -/
theorem top_sorted (g : FVec Ideal Whole .f32) (p : Fin 512) (j : Fin 16) (h : Cert.On_no_tie.fn (F := Ideal) g (ix2 p j) = 1#1) :
    top (wholeRow g p) j.val = rowOf g p (desc (rowOf g p) (place j)) := by
  have hA : ∀ a ∈ wholeRow g p, ∃ i, rowOf g p (desc (rowOf g p) i) = a := fun a ha => by
    obtain ⟨q, -, rfl⟩ := Finset.mem_image.mp ha
    obtain ⟨i, rfl⟩ := desc_surjective (rowOf g p) q
    exact ⟨i, rfl⟩
  have hm : ∀ i, rowOf g p (desc (rowOf g p) i) ∈ wholeRow g p := fun i => Finset.mem_image_of_mem _ (Finset.mem_univ _)
  rcases mask_says g p j h with hs | hb
  · exact top_eq_of_strict (s := fun i => rowOf g p (desc (rowOf g p) i)) hA hm (desc_antitone _) j.val (place j).isLt hs
  · have hle := top_le_of_antitone (s := fun i => rowOf g p (desc (rowOf g p) i)) hA (desc_antitone _) j.val (place j).isLt
    have hb' : rowOf g p (desc (rowOf g p) (place j)) = ⊥ := hb
    rw [hb']
    exact le_bot_iff.mp (hle.trans hb'.le)

/-- A device's result is the reference's where the mask is set. -/
theorem out_eq_ref (g : FVec Ideal Whole .f32) (x : Dev Cert.KernelIdeal.nD → FVec Ideal ⟨2, ![512, 4096]⟩ .f32)
    (hx : ∀ c, x c = Layout.block ⟨2, ![512, 4096]⟩ ⟨2, ![512, 131072]⟩ 1 32 c g tiles) (c : Dev Cert.KernelIdeal.nD) (i : (⟨2, ![512, 16]⟩ : Shape).Idx)
    (h : Cert.On_no_tie.fn (F := Ideal) g i = 1#1) : outOf x c i = refOut g i := by
  obtain ⟨p, j, rfl⟩ : ∃ (p : Fin 512) (j : Fin 16), i = ix2 p j := ⟨i 0, i 1, eq_ix2 i⟩
  rw [refOut_apply, ← top_sorted g p j h]
  refine outOf_apply g x (fun d p q k hk => ?_) c p j
  rw [hx d, Layout.block_apply]
  refine congrArg g (funext fun a => Fin.ext ?_)
  have e := Layout.idx_cols_val tiles d (ix2 p q)
  match a with
  | ⟨0, _⟩ => exact e.1
  | ⟨1, _⟩ => exact e.2.trans hk.symm

theorem algebraic : Cert.algebraic_KernelIdeal_ReferenceIdeal_on_no_tie (hKernelIdeal := Cert.KernelIdeal.Gen.facts)
    (hReferenceIdeal := Cert.ReferenceIdeal.Gen.facts) (hOn_no_tie := maskFacts) := by
  intro m ρ m' ρ' _ hb
  refine ⟨refOut (m' (((0 : Dev Cert.ReferenceIdeal.nD).tc : Thread _ _).loc Cert.ReferenceIdeal.main_arg0)), ?_, ?_⟩
  · refine (θ_run Cert.KernelIdeal.defs _ _).mono (fun r h c => ⟨fun i hi => ?_, (h.1 c (0 : Fin 2)).trans (finalA_x (F := Ideal) m ρ c)⟩)
      (run_main (F := Ideal) m ρ)
    have e : r.2.mem ((c.tc : Thread _ _).loc Cert.KernelIdeal.main_v1) = outOf (xs m ρ) c := (h.1 c (1 : Fin 2)).trans (finalA_out m ρ c)
    rw [e]
    exact out_eq_ref _ (xs m ρ) (fun d => (xs_eq m ρ d).trans (hb d)) c i hi
  · refine (θ_run Cert.ReferenceIdeal.defs _ _).mono (fun r h => ⟨fun i _ => ?_, (h 0).2⟩) (Cert.ReferenceIdeal.Value.run (F := Ideal) m' ρ')
    exact congrFun (h 0).1 i

end Cert.TopK

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.TopK.maskFacts,
  Cert.TopK.frame_kernel, Cert.TopK.frame_kernelIdeal, Cert.TopK.frame_reference, trivial, Cert.TopK.algebraic⟩

end Cert.Proof

end
